-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v280) = v0 c
          ∧ r.2.mem ((c.tc : Thread Cert.ReferenceIdeal.nD Cert.ReferenceIdeal.τ).loc Cert.ReferenceIdeal.main_v274) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S524288x2 : Shape := ⟨2, ![524288, 2]⟩
abbrev S4x2x512 : Shape := ⟨3, ![4, 2, 512]⟩
abbrev S4x512 : Shape := ⟨2, ![4, 512]⟩
abbrev S4x512x512 : Shape := ⟨3, ![4, 512, 512]⟩
abbrev S4x512x4 : Shape := ⟨3, ![4, 512, 4]⟩
abbrev S4x4 : Shape := ⟨2, ![4, 4]⟩
abbrev S4x2 : Shape := ⟨2, ![4, 2]⟩
abbrev S16 : Shape := ⟨1, ![16]⟩
abbrev S8 : Shape := ⟨1, ![8]⟩
abbrev S_ : Shape := ⟨0, ![]⟩
abbrev S1 : Shape := ⟨1, ![1]⟩
abbrev S524288x1 : Shape := ⟨2, ![524288, 1]⟩
abbrev S2048x2 : Shape := ⟨2, ![2048, 2]⟩
abbrev S2048x1 : Shape := ⟨2, ![2048, 1]⟩
abbrev S1x1x512 : Shape := ⟨3, ![1, 1, 512]⟩
abbrev S1x512 : Shape := ⟨2, ![1, 512]⟩
abbrev S2048x512 : Shape := ⟨2, ![2048, 512]⟩
abbrev S1x512x512 : Shape := ⟨3, ![1, 512, 512]⟩
abbrev S512x512 : Shape := ⟨2, ![512, 512]⟩
abbrev S1x512x4 : Shape := ⟨3, ![1, 512, 4]⟩
abbrev S512x4 : Shape := ⟨2, ![512, 4]⟩
abbrev S2048x4 : Shape := ⟨2, ![2048, 4]⟩
abbrev S524288 : Shape := ⟨1, ![524288]⟩

abbrev nBuf : Space → Nat
  | .hbm => 24
  | .vmem => 11
  | .smem => 4
  | _ => 0

abbrev bufTy : (tb : Table) → Fin (tcTables nBuf tb) → BufTy
  | .hbm, ⟨0, _⟩ => ⟨S524288x2, .f32⟩
  | .hbm, ⟨1, _⟩ => ⟨S4x2x512, .f32⟩
  | .hbm, ⟨2, _⟩ => ⟨S4x512, .f32⟩
  | .hbm, ⟨3, _⟩ => ⟨S4x512x512, .f32⟩
  | .hbm, ⟨4, _⟩ => ⟨S4x512, .f32⟩
  | .hbm, ⟨5, _⟩ => ⟨S4x512x4, .f32⟩
  | .hbm, ⟨6, _⟩ => ⟨S4x4, .f32⟩
  | .hbm, ⟨7, _⟩ => ⟨S4x2, .f32⟩
  | .hbm, ⟨8, _⟩ => ⟨S4x2, .f32⟩
  | .hbm, ⟨9, _⟩ => ⟨S4x2x512, .bf16⟩
  | .hbm, ⟨10, _⟩ => ⟨S4x512, .bf16⟩
  | .hbm, ⟨11, _⟩ => ⟨S4x512x512, .bf16⟩
  | .hbm, ⟨12, _⟩ => ⟨S4x512, .bf16⟩
  | .hbm, ⟨13, _⟩ => ⟨S4x512x4, .bf16⟩
  | .hbm, ⟨14, _⟩ => ⟨S16, .f32⟩
  | .hbm, ⟨15, _⟩ => ⟨S4x2, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S_, .f32⟩
  | .hbm, ⟨20, _⟩ => ⟨S1, .f32⟩
  | .hbm, ⟨21, _⟩ => ⟨S524288x2, .f32⟩
  | .hbm, ⟨22, _⟩ => ⟨S524288x1, .f32⟩
  | .hbm, ⟨23, _⟩ => ⟨S524288, .f32⟩
  | .local _ .vmem, ⟨0, _⟩ => ⟨S2048x2, .f32⟩
  | .local _ .vmem, ⟨1, _⟩ => ⟨S2048x2, .f32⟩
  | .local _ .vmem, ⟨2, _⟩ => ⟨S4x2x512, .bf16⟩
  | .local _ .vmem, ⟨3, _⟩ => ⟨S4x512, .bf16⟩
  | .local _ .vmem, ⟨4, _⟩ => ⟨S4x512x512, .bf16⟩
  | .local _ .vmem, ⟨5, _⟩ => ⟨S4x512, .bf16⟩
  | .local _ .vmem, ⟨6, _⟩ => ⟨S4x512x4, .bf16⟩
  | .local _ .vmem, ⟨7, _⟩ => ⟨S2048x2, .f32⟩
  | .local _ .vmem, ⟨8, _⟩ => ⟨S2048x2, .f32⟩
  | .local _ .vmem, ⟨9, _⟩ => ⟨S2048x1, .f32⟩
  | .local _ .vmem, ⟨10, _⟩ => ⟨S2048x1, .f32⟩
  | .local _ .smem, ⟨0, _⟩ => ⟨S16, .f32⟩
  | .local _ .smem, ⟨1, _⟩ => ⟨S8, .f32⟩
  | .local _ .smem, ⟨2, _⟩ => ⟨S8, .f32⟩
  | .local _ .smem, ⟨3, _⟩ => ⟨S1, .f32⟩
  | _, _ => ⟨S524288x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg10_0 : Ref sig .tc := ⟨.vmem, 7, rfl⟩
abbrev cc0_stg10_1 : Ref sig .tc := ⟨.vmem, 8, rfl⟩
abbrev cc0_stg11_0 : Ref sig .tc := ⟨.vmem, 9, rfl⟩
abbrev cc0_stg11_1 : Ref sig .tc := ⟨.vmem, 10, rfl⟩
abbrev cc0_stg6_0 : Ref sig .tc := ⟨.smem, 0, rfl⟩
abbrev cc0_stg7_0 : Ref sig .tc := ⟨.smem, 1, rfl⟩
abbrev cc0_stg8_0 : Ref sig .tc := ⟨.smem, 2, rfl⟩
abbrev cc0_stg9_0 : Ref sig .tc := ⟨.smem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x2x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x512x4 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .smem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2048x2 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S524288x2 : Shape := ⟨2, ![524288, 2]⟩
abbrev S4x2x512 : Shape := ⟨3, ![4, 2, 512]⟩
abbrev S4x512 : Shape := ⟨2, ![4, 512]⟩
abbrev S4x512x512 : Shape := ⟨3, ![4, 512, 512]⟩
abbrev S4x512x4 : Shape := ⟨3, ![4, 512, 4]⟩
abbrev S4x4 : Shape := ⟨2, ![4, 4]⟩
abbrev S4x2 : Shape := ⟨2, ![4, 2]⟩
abbrev S2 : Shape := ⟨1, ![2]⟩
abbrev S_ : Shape := ⟨0, ![]⟩
abbrev S524288 : Shape := ⟨1, ![524288]⟩
abbrev S1x2 : Shape := ⟨2, ![1, 2]⟩
abbrev S1x2x512 : Shape := ⟨3, ![1, 2, 512]⟩
abbrev S2x512 : Shape := ⟨2, ![2, 512]⟩
abbrev S524288x512 : Shape := ⟨2, ![524288, 512]⟩
abbrev S1x512 : Shape := ⟨2, ![1, 512]⟩
abbrev S512 : Shape := ⟨1, ![512]⟩
abbrev S1x512x512 : Shape := ⟨3, ![1, 512, 512]⟩
abbrev S512x512 : Shape := ⟨2, ![512, 512]⟩
abbrev S1x512x4 : Shape := ⟨3, ![1, 512, 4]⟩
abbrev S512x4 : Shape := ⟨2, ![512, 4]⟩
abbrev S524288x4 : Shape := ⟨2, ![524288, 4]⟩
abbrev S1x4 : Shape := ⟨2, ![1, 4]⟩
abbrev S4 : Shape := ⟨1, ![4]⟩

abbrev nBuf : Space → Nat
  | .hbm => 360
  | .vmem => 0
  | .smem => 0
  | _ => 0

abbrev hbmTy0_0 (i : Nat) : BufTy := match i % 128 with
  | 0 => ⟨S524288x2, .f32⟩
  | 1 => ⟨S4x2x512, .f32⟩
  | 2 => ⟨S4x512, .f32⟩
  | 3 => ⟨S4x512x512, .f32⟩
  | 4 => ⟨S4x512, .f32⟩
  | 5 => ⟨S4x512x4, .f32⟩
  | 6 => ⟨S4x4, .f32⟩
  | 7 => ⟨S4x2, .f32⟩
  | 8 => ⟨S4x2, .f32⟩
  | 9 => ⟨S2, .f32⟩
  | 10 => ⟨S2, .f32⟩
  | 11 => ⟨S2, .f32⟩
  | 12 => ⟨S2, .f32⟩
  | 13 => ⟨S_, .f32⟩
  | 14 => ⟨S524288, .f32⟩
  | 15 => ⟨S1x2, .f32⟩
  | 16 => ⟨S524288x2, .f32⟩
  | 17 => ⟨S524288x2, .f32⟩
  | 18 => ⟨S1x2x512, .f32⟩
  | 19 => ⟨S2x512, .f32⟩
  | 20 => ⟨S524288x512, .f32⟩
  | 21 => ⟨S1x512, .f32⟩
  | 22 => ⟨S512, .f32⟩
  | 23 => ⟨S1x512, .f32⟩
  | 24 => ⟨S524288x512, .f32⟩
  | 25 => ⟨S524288x512, .f32⟩
  | 26 => ⟨S_, .f32⟩
  | 27 => ⟨S524288x512, .f32⟩
  | 28 => ⟨S524288x512, .f32⟩
  | 29 => ⟨S1x512x512, .f32⟩
  | 30 => ⟨S512x512, .f32⟩
  | 31 => ⟨S524288x512, .f32⟩
  | 32 => ⟨S1x512, .f32⟩
  | 33 => ⟨S512, .f32⟩
  | 34 => ⟨S1x512, .f32⟩
  | 35 => ⟨S524288x512, .f32⟩
  | 36 => ⟨S524288x512, .f32⟩
  | 37 => ⟨S_, .f32⟩
  | 38 => ⟨S524288x512, .f32⟩
  | 39 => ⟨S524288x512, .f32⟩
  | 40 => ⟨S1x512x4, .f32⟩
  | 41 => ⟨S512x4, .f32⟩
  | 42 => ⟨S524288x4, .f32⟩
  | 43 => ⟨S1x4, .f32⟩
  | 44 => ⟨S4, .f32⟩
  | 45 => ⟨S1x4, .f32⟩
  | 46 => ⟨S524288x4, .f32⟩
  | 47 => ⟨S524288x4, .f32⟩
  | 48 => ⟨S524288x2, .f32⟩
  | 49 => ⟨S524288x2, .f32⟩
  | 50 => ⟨S524288x2, .f32⟩
  | 51 => ⟨S1x2, .f32⟩
  | 52 => ⟨S524288x2, .f32⟩
  | 53 => ⟨S524288x2, .f32⟩
  | 54 => ⟨S_, .f32⟩
  | 55 => ⟨S2, .f32⟩
  | 56 => ⟨S2, .f32⟩
  | 57 => ⟨S524288x2, .f32⟩
  | 58 => ⟨S524288x2, .f32⟩
  | 59 => ⟨S524288x2, .f32⟩
  | 60 => ⟨S1x2, .f32⟩
  | 61 => ⟨S524288x2, .f32⟩
  | 62 => ⟨S524288x2, .f32⟩
  | 63 => ⟨S524288x2, .f32⟩
  | 64 => ⟨S_, .f32⟩
  | 65 => ⟨S2, .f32⟩
  | 66 => ⟨S2, .f32⟩
  | 67 => ⟨S1x2, .f32⟩
  | 68 => ⟨S524288x2, .f32⟩
  | 69 => ⟨S524288x2, .f32⟩
  | 70 => ⟨S_, .f32⟩
  | 71 => ⟨S524288, .f32⟩
  | 72 => ⟨S524288, .f32⟩
  | 73 => ⟨S1x2, .f32⟩
  | 74 => ⟨S2, .f32⟩
  | 75 => ⟨S2, .f32⟩
  | 76 => ⟨S1x2, .f32⟩
  | 77 => ⟨S524288x2, .f32⟩
  | 78 => ⟨S524288x2, .f32⟩
  | 79 => ⟨S1x2, .f32⟩
  | 80 => ⟨S2, .f32⟩
  | 81 => ⟨S1x2, .f32⟩
  | 82 => ⟨S524288x2, .f32⟩
  | 83 => ⟨S524288x2, .f32⟩
  | 84 => ⟨S1x2, .f32⟩
  | 85 => ⟨S2, .f32⟩
  | 86 => ⟨S_, .f32⟩
  | 87 => ⟨S_, .f32⟩
  | 88 => ⟨S524288, .f32⟩
  | 89 => ⟨S524288, .f32⟩
  | 90 => ⟨S1x2, .f32⟩
  | 91 => ⟨S524288x2, .f32⟩
  | 92 => ⟨S524288x2, .f32⟩
  | 93 => ⟨S1x2x512, .f32⟩
  | 94 => ⟨S2x512, .f32⟩
  | 95 => ⟨S524288x512, .f32⟩
  | 96 => ⟨S1x512, .f32⟩
  | 97 => ⟨S512, .f32⟩
  | 98 => ⟨S1x512, .f32⟩
  | 99 => ⟨S524288x512, .f32⟩
  | 100 => ⟨S524288x512, .f32⟩
  | 101 => ⟨S_, .f32⟩
  | 102 => ⟨S524288x512, .f32⟩
  | 103 => ⟨S524288x512, .f32⟩
  | 104 => ⟨S1x512x512, .f32⟩
  | 105 => ⟨S512x512, .f32⟩
  | 106 => ⟨S524288x512, .f32⟩
  | 107 => ⟨S1x512, .f32⟩
  | 108 => ⟨S512, .f32⟩
  | 109 => ⟨S1x512, .f32⟩
  | 110 => ⟨S524288x512, .f32⟩
  | 111 => ⟨S524288x512, .f32⟩
  | 112 => ⟨S_, .f32⟩
  | 113 => ⟨S524288x512, .f32⟩
  | 114 => ⟨S524288x512, .f32⟩
  | 115 => ⟨S1x512x4, .f32⟩
  | 116 => ⟨S512x4, .f32⟩
  | 117 => ⟨S524288x4, .f32⟩
  | 118 => ⟨S1x4, .f32⟩
  | 119 => ⟨S4, .f32⟩
  | 120 => ⟨S1x4, .f32⟩
  | 121 => ⟨S524288x4, .f32⟩
  | 122 => ⟨S524288x4, .f32⟩
  | 123 => ⟨S524288x2, .f32⟩
  | 124 => ⟨S524288x2, .f32⟩
  | 125 => ⟨S524288x2, .f32⟩
  | 126 => ⟨S1x2, .f32⟩
  | 127 => ⟨S524288x2, .f32⟩
  | _ => ⟨S524288x2, .f32⟩

abbrev hbmTy0_1 (i : Nat) : BufTy := match i % 128 with
  | 0 => ⟨S524288x2, .f32⟩
  | 1 => ⟨S_, .f32⟩
  | 2 => ⟨S2, .f32⟩
  | 3 => ⟨S2, .f32⟩
  | 4 => ⟨S524288x2, .f32⟩
  | 5 => ⟨S524288x2, .f32⟩
  | 6 => ⟨S524288x2, .f32⟩
  | 7 => ⟨S1x2, .f32⟩
  | 8 => ⟨S524288x2, .f32⟩
  | 9 => ⟨S524288x2, .f32⟩
  | 10 => ⟨S524288x2, .f32⟩
  | 11 => ⟨S_, .f32⟩
  | 12 => ⟨S2, .f32⟩
  | 13 => ⟨S2, .f32⟩
  | 14 => ⟨S1x2, .f32⟩
  | 15 => ⟨S524288x2, .f32⟩
  | 16 => ⟨S524288x2, .f32⟩
  | 17 => ⟨S_, .f32⟩
  | 18 => ⟨S524288, .f32⟩
  | 19 => ⟨S524288, .f32⟩
  | 20 => ⟨S1x2, .f32⟩
  | 21 => ⟨S2, .f32⟩
  | 22 => ⟨S2, .f32⟩
  | 23 => ⟨S1x2, .f32⟩
  | 24 => ⟨S524288x2, .f32⟩
  | 25 => ⟨S524288x2, .f32⟩
  | 26 => ⟨S1x2, .f32⟩
  | 27 => ⟨S2, .f32⟩
  | 28 => ⟨S1x2, .f32⟩
  | 29 => ⟨S524288x2, .f32⟩
  | 30 => ⟨S524288x2, .f32⟩
  | 31 => ⟨S1x2, .f32⟩
  | 32 => ⟨S2, .f32⟩
  | 33 => ⟨S_, .f32⟩
  | 34 => ⟨S_, .f32⟩
  | 35 => ⟨S524288, .f32⟩
  | 36 => ⟨S524288, .f32⟩
  | 37 => ⟨S1x2, .f32⟩
  | 38 => ⟨S524288x2, .f32⟩
  | 39 => ⟨S524288x2, .f32⟩
  | 40 => ⟨S1x2x512, .f32⟩
  | 41 => ⟨S2x512, .f32⟩
  | 42 => ⟨S524288x512, .f32⟩
  | 43 => ⟨S1x512, .f32⟩
  | 44 => ⟨S512, .f32⟩
  | 45 => ⟨S1x512, .f32⟩
  | 46 => ⟨S524288x512, .f32⟩
  | 47 => ⟨S524288x512, .f32⟩
  | 48 => ⟨S_, .f32⟩
  | 49 => ⟨S524288x512, .f32⟩
  | 50 => ⟨S524288x512, .f32⟩
  | 51 => ⟨S1x512x512, .f32⟩
  | 52 => ⟨S512x512, .f32⟩
  | 53 => ⟨S524288x512, .f32⟩
  | 54 => ⟨S1x512, .f32⟩
  | 55 => ⟨S512, .f32⟩
  | 56 => ⟨S1x512, .f32⟩
  | 57 => ⟨S524288x512, .f32⟩
  | 58 => ⟨S524288x512, .f32⟩
  | 59 => ⟨S_, .f32⟩
  | 60 => ⟨S524288x512, .f32⟩
  | 61 => ⟨S524288x512, .f32⟩
  | 62 => ⟨S1x512x4, .f32⟩
  | 63 => ⟨S512x4, .f32⟩
  | 64 => ⟨S524288x4, .f32⟩
  | 65 => ⟨S1x4, .f32⟩
  | 66 => ⟨S4, .f32⟩
  | 67 => ⟨S1x4, .f32⟩
  | 68 => ⟨S524288x4, .f32⟩
  | 69 => ⟨S524288x4, .f32⟩
  | 70 => ⟨S524288x2, .f32⟩
  | 71 => ⟨S524288x2, .f32⟩
  | 72 => ⟨S524288x2, .f32⟩
  | 73 => ⟨S1x2, .f32⟩
  | 74 => ⟨S524288x2, .f32⟩
  | 75 => ⟨S524288x2, .f32⟩
  | 76 => ⟨S_, .f32⟩
  | 77 => ⟨S2, .f32⟩
  | 78 => ⟨S2, .f32⟩
  | 79 => ⟨S524288x2, .f32⟩
  | 80 => ⟨S524288x2, .f32⟩
  | 81 => ⟨S524288x2, .f32⟩
  | 82 => ⟨S1x2, .f32⟩
  | 83 => ⟨S524288x2, .f32⟩
  | 84 => ⟨S524288x2, .f32⟩
  | 85 => ⟨S524288x2, .f32⟩
  | 86 => ⟨S_, .f32⟩
  | 87 => ⟨S2, .f32⟩
  | 88 => ⟨S2, .f32⟩
  | 89 => ⟨S1x2, .f32⟩
  | 90 => ⟨S524288x2, .f32⟩
  | 91 => ⟨S524288x2, .f32⟩
  | 92 => ⟨S_, .f32⟩
  | 93 => ⟨S524288, .f32⟩
  | 94 => ⟨S524288, .f32⟩
  | 95 => ⟨S1x2, .f32⟩
  | 96 => ⟨S2, .f32⟩
  | 97 => ⟨S2, .f32⟩
  | 98 => ⟨S1x2, .f32⟩
  | 99 => ⟨S524288x2, .f32⟩
  | 100 => ⟨S524288x2, .f32⟩
  | 101 => ⟨S1x2, .f32⟩
  | 102 => ⟨S2, .f32⟩
  | 103 => ⟨S1x2, .f32⟩
  | 104 => ⟨S524288x2, .f32⟩
  | 105 => ⟨S524288x2, .f32⟩
  | 106 => ⟨S1x2, .f32⟩
  | 107 => ⟨S2, .f32⟩
  | 108 => ⟨S_, .f32⟩
  | 109 => ⟨S_, .f32⟩
  | 110 => ⟨S524288, .f32⟩
  | 111 => ⟨S524288, .f32⟩
  | 112 => ⟨S1x2, .f32⟩
  | 113 => ⟨S524288x2, .f32⟩
  | 114 => ⟨S524288x2, .f32⟩
  | 115 => ⟨S1x2x512, .f32⟩
  | 116 => ⟨S2x512, .f32⟩
  | 117 => ⟨S524288x512, .f32⟩
  | 118 => ⟨S1x512, .f32⟩
  | 119 => ⟨S512, .f32⟩
  | 120 => ⟨S1x512, .f32⟩
  | 121 => ⟨S524288x512, .f32⟩
  | 122 => ⟨S524288x512, .f32⟩
  | 123 => ⟨S_, .f32⟩
  | 124 => ⟨S524288x512, .f32⟩
  | 125 => ⟨S524288x512, .f32⟩
  | 126 => ⟨S1x512x512, .f32⟩
  | 127 => ⟨S512x512, .f32⟩
  | _ => ⟨S524288x2, .f32⟩

abbrev hbmTy0_2 (i : Nat) : BufTy := match i % 128 with
  | 0 => ⟨S524288x512, .f32⟩
  | 1 => ⟨S1x512, .f32⟩
  | 2 => ⟨S512, .f32⟩
  | 3 => ⟨S1x512, .f32⟩
  | 4 => ⟨S524288x512, .f32⟩
  | 5 => ⟨S524288x512, .f32⟩
  | 6 => ⟨S_, .f32⟩
  | 7 => ⟨S524288x512, .f32⟩
  | 8 => ⟨S524288x512, .f32⟩
  | 9 => ⟨S1x512x4, .f32⟩
  | 10 => ⟨S512x4, .f32⟩
  | 11 => ⟨S524288x4, .f32⟩
  | 12 => ⟨S1x4, .f32⟩
  | 13 => ⟨S4, .f32⟩
  | 14 => ⟨S1x4, .f32⟩
  | 15 => ⟨S524288x4, .f32⟩
  | 16 => ⟨S524288x4, .f32⟩
  | 17 => ⟨S524288x2, .f32⟩
  | 18 => ⟨S524288x2, .f32⟩
  | 19 => ⟨S524288x2, .f32⟩
  | 20 => ⟨S1x2, .f32⟩
  | 21 => ⟨S524288x2, .f32⟩
  | 22 => ⟨S524288x2, .f32⟩
  | 23 => ⟨S_, .f32⟩
  | 24 => ⟨S2, .f32⟩
  | 25 => ⟨S2, .f32⟩
  | 26 => ⟨S524288x2, .f32⟩
  | 27 => ⟨S524288x2, .f32⟩
  | 28 => ⟨S524288x2, .f32⟩
  | 29 => ⟨S1x2, .f32⟩
  | 30 => ⟨S524288x2, .f32⟩
  | 31 => ⟨S524288x2, .f32⟩
  | 32 => ⟨S524288x2, .f32⟩
  | 33 => ⟨S_, .f32⟩
  | 34 => ⟨S2, .f32⟩
  | 35 => ⟨S2, .f32⟩
  | 36 => ⟨S1x2, .f32⟩
  | 37 => ⟨S524288x2, .f32⟩
  | 38 => ⟨S524288x2, .f32⟩
  | 39 => ⟨S_, .f32⟩
  | 40 => ⟨S524288, .f32⟩
  | 41 => ⟨S524288, .f32⟩
  | 42 => ⟨S1x2, .f32⟩
  | 43 => ⟨S2, .f32⟩
  | 44 => ⟨S2, .f32⟩
  | 45 => ⟨S1x2, .f32⟩
  | 46 => ⟨S524288x2, .f32⟩
  | 47 => ⟨S524288x2, .f32⟩
  | 48 => ⟨S1x2, .f32⟩
  | 49 => ⟨S2, .f32⟩
  | 50 => ⟨S1x2, .f32⟩
  | 51 => ⟨S524288x2, .f32⟩
  | 52 => ⟨S524288x2, .f32⟩
  | 53 => ⟨S1x2, .f32⟩
  | 54 => ⟨S2, .f32⟩
  | 55 => ⟨S_, .f32⟩
  | 56 => ⟨S_, .f32⟩
  | 57 => ⟨S524288, .f32⟩
  | 58 => ⟨S524288, .f32⟩
  | 59 => ⟨S524288x2, .f32⟩
  | 60 => ⟨S_, .f32⟩
  | 61 => ⟨S524288x2, .f32⟩
  | 62 => ⟨S524288x2, .f32⟩
  | 63 => ⟨S524288x2, .f32⟩
  | 64 => ⟨S524288x2, .f32⟩
  | 65 => ⟨S524288x2, .i1⟩
  | 66 => ⟨S524288x2, .f32⟩
  | 67 => ⟨S524288x2, .f32⟩
  | 68 => ⟨S524288x2, .f32⟩
  | 69 => ⟨S524288x2, .f32⟩
  | 70 => ⟨S524288x2, .f32⟩
  | 71 => ⟨S524288x2, .f32⟩
  | 72 => ⟨S524288x2, .f32⟩
  | 73 => ⟨S524288x2, .f32⟩
  | 74 => ⟨S524288x2, .f32⟩
  | 75 => ⟨S524288x2, .f32⟩
  | 76 => ⟨S524288x2, .f32⟩
  | 77 => ⟨S_, .f32⟩
  | 78 => ⟨S524288x2, .f32⟩
  | 79 => ⟨S524288x2, .f32⟩
  | 80 => ⟨S524288x2, .f32⟩
  | 81 => ⟨S524288x2, .f32⟩
  | 82 => ⟨S524288x2, .i1⟩
  | 83 => ⟨S524288x2, .f32⟩
  | 84 => ⟨S524288x2, .f32⟩
  | 85 => ⟨S524288x2, .f32⟩
  | 86 => ⟨S524288x2, .f32⟩
  | 87 => ⟨S524288x2, .f32⟩
  | 88 => ⟨S524288x2, .f32⟩
  | 89 => ⟨S524288x2, .f32⟩
  | 90 => ⟨S524288x2, .f32⟩
  | 91 => ⟨S524288x2, .f32⟩
  | 92 => ⟨S524288x2, .f32⟩
  | 93 => ⟨S_, .f32⟩
  | 94 => ⟨S524288, .f32⟩
  | 95 => ⟨S524288, .f32⟩
  | 96 => ⟨S524288x2, .f32⟩
  | 97 => ⟨S524288x2, .f32⟩
  | 98 => ⟨S_, .f32⟩
  | 99 => ⟨S524288x2, .f32⟩
  | 100 => ⟨S524288x2, .f32⟩
  | 101 => ⟨S_, .f32⟩
  | 102 => ⟨S524288x2, .f32⟩
  | 103 => ⟨S524288x2, .f32⟩
  | _ => ⟨S524288x2, .f32⟩

abbrev hbmTy (i : Nat) : BufTy := match i / 128 with
  | 0 => hbmTy0_0 i
  | 1 => hbmTy0_1 i
  | 2 => hbmTy0_2 i
  | _ => ⟨S524288x2, .f32⟩

abbrev bufTy : (tb : Table) → Fin (tcTables nBuf tb) → BufTy
  | .hbm, ⟨i, _⟩ => hbmTy i
  | _, _ => ⟨S524288x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_cst_1 : Ref sig .tc := ⟨.hbm, 11, rfl⟩
abbrev main_cst_2 : Ref sig .tc := ⟨.hbm, 12, rfl⟩
abbrev main_cst_3 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_call0_cst : Ref sig .tc := ⟨.hbm, 26, rfl⟩
abbrev main_call0_v0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_call1_cst : Ref sig .tc := ⟨.hbm, 37, rfl⟩
abbrev main_call1_v0 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_5 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_6 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_7 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_call2_cst : Ref sig .tc := ⟨.hbm, 101, rfl⟩
abbrev main_call2_v0 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_call3_cst : Ref sig .tc := ⟨.hbm, 112, rfl⟩
abbrev main_call3_v0 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_cst_8 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_cst_9 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_cst_10 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_cst_11 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_call4_cst : Ref sig .tc := ⟨.hbm, 176, rfl⟩
abbrev main_call4_v0 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_call5_cst : Ref sig .tc := ⟨.hbm, 187, rfl⟩
abbrev main_call5_v0 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_cst_12 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_cst_13 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_cst_14 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩
abbrev main_v193 : Ref sig .tc := ⟨.hbm, 230, rfl⟩
abbrev main_v194 : Ref sig .tc := ⟨.hbm, 231, rfl⟩
abbrev main_v195 : Ref sig .tc := ⟨.hbm, 232, rfl⟩
abbrev main_v196 : Ref sig .tc := ⟨.hbm, 233, rfl⟩
abbrev main_v197 : Ref sig .tc := ⟨.hbm, 234, rfl⟩
abbrev main_v198 : Ref sig .tc := ⟨.hbm, 235, rfl⟩
abbrev main_cst_15 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_v203 : Ref sig .tc := ⟨.hbm, 241, rfl⟩
abbrev main_v204 : Ref sig .tc := ⟨.hbm, 242, rfl⟩
abbrev main_v205 : Ref sig .tc := ⟨.hbm, 243, rfl⟩
abbrev main_v206 : Ref sig .tc := ⟨.hbm, 244, rfl⟩
abbrev main_v207 : Ref sig .tc := ⟨.hbm, 245, rfl⟩
abbrev main_v208 : Ref sig .tc := ⟨.hbm, 246, rfl⟩
abbrev main_v209 : Ref sig .tc := ⟨.hbm, 247, rfl⟩
abbrev main_v210 : Ref sig .tc := ⟨.hbm, 248, rfl⟩
abbrev main_v211 : Ref sig .tc := ⟨.hbm, 249, rfl⟩
abbrev main_v212 : Ref sig .tc := ⟨.hbm, 250, rfl⟩
abbrev main_call6_cst : Ref sig .tc := ⟨.hbm, 251, rfl⟩
abbrev main_call6_v0 : Ref sig .tc := ⟨.hbm, 252, rfl⟩
abbrev main_v213 : Ref sig .tc := ⟨.hbm, 253, rfl⟩
abbrev main_v214 : Ref sig .tc := ⟨.hbm, 254, rfl⟩
abbrev main_v215 : Ref sig .tc := ⟨.hbm, 255, rfl⟩
abbrev main_v216 : Ref sig .tc := ⟨.hbm, 256, rfl⟩
abbrev main_v217 : Ref sig .tc := ⟨.hbm, 257, rfl⟩
abbrev main_v218 : Ref sig .tc := ⟨.hbm, 258, rfl⟩
abbrev main_v219 : Ref sig .tc := ⟨.hbm, 259, rfl⟩
abbrev main_v220 : Ref sig .tc := ⟨.hbm, 260, rfl⟩
abbrev main_v221 : Ref sig .tc := ⟨.hbm, 261, rfl⟩
abbrev main_call7_cst : Ref sig .tc := ⟨.hbm, 262, rfl⟩
abbrev main_call7_v0 : Ref sig .tc := ⟨.hbm, 263, rfl⟩
abbrev main_v222 : Ref sig .tc := ⟨.hbm, 264, rfl⟩
abbrev main_v223 : Ref sig .tc := ⟨.hbm, 265, rfl⟩
abbrev main_v224 : Ref sig .tc := ⟨.hbm, 266, rfl⟩
abbrev main_v225 : Ref sig .tc := ⟨.hbm, 267, rfl⟩
abbrev main_v226 : Ref sig .tc := ⟨.hbm, 268, rfl⟩
abbrev main_v227 : Ref sig .tc := ⟨.hbm, 269, rfl⟩
abbrev main_v228 : Ref sig .tc := ⟨.hbm, 270, rfl⟩
abbrev main_v229 : Ref sig .tc := ⟨.hbm, 271, rfl⟩
abbrev main_v230 : Ref sig .tc := ⟨.hbm, 272, rfl⟩
abbrev main_v231 : Ref sig .tc := ⟨.hbm, 273, rfl⟩
abbrev main_v232 : Ref sig .tc := ⟨.hbm, 274, rfl⟩
abbrev main_v233 : Ref sig .tc := ⟨.hbm, 275, rfl⟩
abbrev main_v234 : Ref sig .tc := ⟨.hbm, 276, rfl⟩
abbrev main_v235 : Ref sig .tc := ⟨.hbm, 277, rfl⟩
abbrev main_v236 : Ref sig .tc := ⟨.hbm, 278, rfl⟩
abbrev main_cst_16 : Ref sig .tc := ⟨.hbm, 279, rfl⟩
abbrev main_v237 : Ref sig .tc := ⟨.hbm, 280, rfl⟩
abbrev main_v238 : Ref sig .tc := ⟨.hbm, 281, rfl⟩
abbrev main_v239 : Ref sig .tc := ⟨.hbm, 282, rfl⟩
abbrev main_v240 : Ref sig .tc := ⟨.hbm, 283, rfl⟩
abbrev main_v241 : Ref sig .tc := ⟨.hbm, 284, rfl⟩
abbrev main_v242 : Ref sig .tc := ⟨.hbm, 285, rfl⟩
abbrev main_v243 : Ref sig .tc := ⟨.hbm, 286, rfl⟩
abbrev main_v244 : Ref sig .tc := ⟨.hbm, 287, rfl⟩
abbrev main_v245 : Ref sig .tc := ⟨.hbm, 288, rfl⟩
abbrev main_cst_17 : Ref sig .tc := ⟨.hbm, 289, rfl⟩
abbrev main_v246 : Ref sig .tc := ⟨.hbm, 290, rfl⟩
abbrev main_v247 : Ref sig .tc := ⟨.hbm, 291, rfl⟩
abbrev main_v248 : Ref sig .tc := ⟨.hbm, 292, rfl⟩
abbrev main_v249 : Ref sig .tc := ⟨.hbm, 293, rfl⟩
abbrev main_v250 : Ref sig .tc := ⟨.hbm, 294, rfl⟩
abbrev main_cst_18 : Ref sig .tc := ⟨.hbm, 295, rfl⟩
abbrev main_v251 : Ref sig .tc := ⟨.hbm, 296, rfl⟩
abbrev main_v252 : Ref sig .tc := ⟨.hbm, 297, rfl⟩
abbrev main_v253 : Ref sig .tc := ⟨.hbm, 298, rfl⟩
abbrev main_v254 : Ref sig .tc := ⟨.hbm, 299, rfl⟩
abbrev main_v255 : Ref sig .tc := ⟨.hbm, 300, rfl⟩
abbrev main_v256 : Ref sig .tc := ⟨.hbm, 301, rfl⟩
abbrev main_v257 : Ref sig .tc := ⟨.hbm, 302, rfl⟩
abbrev main_v258 : Ref sig .tc := ⟨.hbm, 303, rfl⟩
abbrev main_v259 : Ref sig .tc := ⟨.hbm, 304, rfl⟩
abbrev main_v260 : Ref sig .tc := ⟨.hbm, 305, rfl⟩
abbrev main_v261 : Ref sig .tc := ⟨.hbm, 306, rfl⟩
abbrev main_v262 : Ref sig .tc := ⟨.hbm, 307, rfl⟩
abbrev main_v263 : Ref sig .tc := ⟨.hbm, 308, rfl⟩
abbrev main_v264 : Ref sig .tc := ⟨.hbm, 309, rfl⟩
abbrev main_v265 : Ref sig .tc := ⟨.hbm, 310, rfl⟩
abbrev main_cst_19 : Ref sig .tc := ⟨.hbm, 311, rfl⟩
abbrev main_v266 : Ref sig .tc := ⟨.hbm, 312, rfl⟩
abbrev main_v267 : Ref sig .tc := ⟨.hbm, 313, rfl⟩
abbrev main_v268 : Ref sig .tc := ⟨.hbm, 314, rfl⟩
abbrev main_call8_v0 : Ref sig .tc := ⟨.hbm, 315, rfl⟩
abbrev main_call8_call0_cst : Ref sig .tc := ⟨.hbm, 316, rfl⟩
abbrev main_call8_call0_v0 : Ref sig .tc := ⟨.hbm, 317, rfl⟩
abbrev main_call8_call0_v1 : Ref sig .tc := ⟨.hbm, 318, rfl⟩
abbrev main_call8_call0_v2 : Ref sig .tc := ⟨.hbm, 319, rfl⟩
abbrev main_call8_call0_v3 : Ref sig .tc := ⟨.hbm, 320, rfl⟩
abbrev main_call8_call0_v4 : Ref sig .tc := ⟨.hbm, 321, rfl⟩
abbrev main_call8_call0_v5 : Ref sig .tc := ⟨.hbm, 322, rfl⟩
abbrev main_call8_call0_v6 : Ref sig .tc := ⟨.hbm, 323, rfl⟩
abbrev main_call8_call0_v7 : Ref sig .tc := ⟨.hbm, 324, rfl⟩
abbrev main_call8_call0_v8 : Ref sig .tc := ⟨.hbm, 325, rfl⟩
abbrev main_call8_call0_v9 : Ref sig .tc := ⟨.hbm, 326, rfl⟩
abbrev main_call8_call0_v10 : Ref sig .tc := ⟨.hbm, 327, rfl⟩
abbrev main_call8_call0_v11 : Ref sig .tc := ⟨.hbm, 328, rfl⟩
abbrev main_call8_v1 : Ref sig .tc := ⟨.hbm, 329, rfl⟩
abbrev main_v269 : Ref sig .tc := ⟨.hbm, 330, rfl⟩
abbrev main_v270 : Ref sig .tc := ⟨.hbm, 331, rfl⟩
abbrev main_call9_v0 : Ref sig .tc := ⟨.hbm, 332, rfl⟩
abbrev main_call9_call0_cst : Ref sig .tc := ⟨.hbm, 333, rfl⟩
abbrev main_call9_call0_v0 : Ref sig .tc := ⟨.hbm, 334, rfl⟩
abbrev main_call9_call0_v1 : Ref sig .tc := ⟨.hbm, 335, rfl⟩
abbrev main_call9_call0_v2 : Ref sig .tc := ⟨.hbm, 336, rfl⟩
abbrev main_call9_call0_v3 : Ref sig .tc := ⟨.hbm, 337, rfl⟩
abbrev main_call9_call0_v4 : Ref sig .tc := ⟨.hbm, 338, rfl⟩
abbrev main_call9_call0_v5 : Ref sig .tc := ⟨.hbm, 339, rfl⟩
abbrev main_call9_call0_v6 : Ref sig .tc := ⟨.hbm, 340, rfl⟩
abbrev main_call9_call0_v7 : Ref sig .tc := ⟨.hbm, 341, rfl⟩
abbrev main_call9_call0_v8 : Ref sig .tc := ⟨.hbm, 342, rfl⟩
abbrev main_call9_call0_v9 : Ref sig .tc := ⟨.hbm, 343, rfl⟩
abbrev main_call9_call0_v10 : Ref sig .tc := ⟨.hbm, 344, rfl⟩
abbrev main_call9_call0_v11 : Ref sig .tc := ⟨.hbm, 345, rfl⟩
abbrev main_call9_v1 : Ref sig .tc := ⟨.hbm, 346, rfl⟩
abbrev main_v271 : Ref sig .tc := ⟨.hbm, 347, rfl⟩
abbrev main_v272 : Ref sig .tc := ⟨.hbm, 348, rfl⟩
abbrev main_cst_20 : Ref sig .tc := ⟨.hbm, 349, rfl⟩
abbrev main_v273 : Ref sig .tc := ⟨.hbm, 350, rfl⟩
abbrev main_v274 : Ref sig .tc := ⟨.hbm, 351, rfl⟩
abbrev main_v275 : Ref sig .tc := ⟨.hbm, 352, rfl⟩
abbrev main_v276 : Ref sig .tc := ⟨.hbm, 353, rfl⟩
abbrev main_cst_21 : Ref sig .tc := ⟨.hbm, 354, rfl⟩
abbrev main_v277 : Ref sig .tc := ⟨.hbm, 355, rfl⟩
abbrev main_v278 : Ref sig .tc := ⟨.hbm, 356, rfl⟩
abbrev main_cst_22 : Ref sig .tc := ⟨.hbm, 357, rfl⟩
abbrev main_v279 : Ref sig .tc := ⟨.hbm, 358, rfl⟩
abbrev main_v280 : Ref sig .tc := ⟨.hbm, 359, rfl⟩

abbrev nD : Nat := 1
abbrev τ : Topo := Topo.v7x

variable {F : FTy → Type} [FloatOps F]
-- ==== Proof.Model.lean ====
/-
  THE FLOW ON ONE ROW, over the extended reals: four affine coupling layers with their per-coordinate scale and shift,
  the log-determinant, and the closing sigmoid. Both programs are shown to compute these functions of a row of the
  input and of the eight parameter arrays. This module also has the two equations that make the two programs' ways of
  writing the row equal:

    * a coupling layer that selects its lane by a 0/1 mask (the reference) is the layer that reads one lane and
      replaces the other (the kernel): `masked_first`, `masked_pick`, `masked_sum_zero`,
      `masked_sum_one`;
    * the sigmoid's log-derivative `log σ(z) + log σ(−z)` is `−(2·log(1 + e^(−|z|)) + |z|)`: `logSig_add_logSig_neg`.

  Each holds at every extended real, the infinities included: a product with 0 is 0 there, a sum is commutative and
  associative, and nothing else is asked of the arithmetic.
-/
module

public import Idealize.ShloMosaic.PureOps.Ideal
public import Idealize.ShloMosaic.PureOps.Ideal.Laws

@[expose] public section

noncomputable section

namespace Cert.Flow

open Idealize.ShloMosaic
open scoped BigOperators

/-- The eight parameter arrays, each as a function of its coordinates: the three weight matrices and biases of the
    four conditioner networks, and the log-scales and shifts that follow each layer. -/
structure Params where
  /-- first weights: layer, input lane, hidden unit -/
  w1 : Fin 4 → Fin 2 → Fin 512 → EReal
  /-- first bias -/
  b1 : Fin 4 → Fin 512 → EReal
  /-- second weights: layer, from unit, to unit -/
  w2 : Fin 4 → Fin 512 → Fin 512 → EReal
  /-- second bias -/
  b2 : Fin 4 → Fin 512 → EReal
  /-- third weights: layer, hidden unit, output lane -/
  w3 : Fin 4 → Fin 512 → Fin 4 → EReal
  /-- third bias -/
  b3 : Fin 4 → Fin 4 → EReal
  /-- log-scale after the layer -/
  ls : Fin 4 → Fin 2 → EReal
  /-- shift after the layer -/
  sh : Fin 4 → Fin 2 → EReal

/-! ## One conditioner network -/

/-- The second hidden layer and the output product, from the first hidden layer `h` (after its relu). -/
def tailNet (h : Fin 512 → EReal) (w2 : Fin 512 → Fin 512 → EReal) (b2 : Fin 512 → EReal) (w3 : Fin 512 → Fin 4 → EReal)
    (j : Fin 4) : EReal :=
  ∑ k : Fin 512, max ((∑ l : Fin 512, h l * w2 l k) + b2 k) 0 * w3 k j

/-- The first hidden layer of a network that reads the one number `x`. -/
def firstLayer (x : EReal) (w1 b1 : Fin 512 → EReal) (k : Fin 512) : EReal := max (x * w1 k + b1 k) 0

/-- A conditioner network's four outputs, before the last bias, from the one number `x` it reads. -/
def net (x : EReal) (w1 b1 : Fin 512 → EReal) (w2 : Fin 512 → Fin 512 → EReal) (b2 : Fin 512 → EReal)
    (w3 : Fin 512 → Fin 4 → EReal) (j : Fin 4) : EReal :=
  tailNet (firstLayer x w1 b1) w2 b2 w3 j

/-- Layer `i`'s network on the row `y`, which it reads at lane `d`. -/
def cond (P : Params) (i : Fin 4) (d : Fin 2) (y : Fin 2 → EReal) (j : Fin 4) : EReal :=
  net (y d) (P.w1 i d) (P.b1 i) (P.w2 i) (P.b2 i) (P.w3 i) j + P.b3 i j

/-- The log-scale the network asks for at lane `e`: the hyperbolic tangent of its output `e`. -/
def logScale (P : Params) (i : Fin 4) (d : Fin 2) (y : Fin 2 → EReal) (e : Fin 2) : EReal :=
  Ideal.tanh (cond P i d y ⟨e.val, by omega⟩)

/-- The translation the network asks for at lane `e`: its output `2 + e`. -/
def shift (P : Params) (i : Fin 4) (d : Fin 2) (y : Fin 2 → EReal) (e : Fin 2) : EReal :=
  cond P i d y ⟨2 + e.val, by omega⟩

/-- Layer `i` on the row `y`: lane `d` is kept, the other lane is scaled and translated as the network on lane `d`
    asks; then each lane is scaled by `exp` of its log-scale and shifted. -/
def step (P : Params) (i : Fin 4) (d : Fin 2) (y : Fin 2 → EReal) (e : Fin 2) : EReal :=
  (if e = d then y e else y e * Ideal.exp (logScale P i d y e) + shift P i d y e) * Ideal.exp (P.ls i e) + P.sh i e

/-! ## The flow -/

/-- The row after the first layer, which reads lane 0 … -/
def row1 (P : Params) (y : Fin 2 → EReal) : Fin 2 → EReal := step P 0 0 y
/-- … after the second, which reads lane 1 … -/
def row2 (P : Params) (y : Fin 2 → EReal) : Fin 2 → EReal := step P 1 1 (row1 P y)
/-- … after the third, which reads lane 0 … -/
def row3 (P : Params) (y : Fin 2 → EReal) : Fin 2 → EReal := step P 2 0 (row2 P y)
/-- … and after the fourth, which reads lane 1. -/
def row4 (P : Params) (y : Fin 2 → EReal) : Fin 2 → EReal := step P 3 1 (row3 P y)

/-- The first result at lane `e`: the sigmoid of the last row. -/
def out (P : Params) (y : Fin 2 → EReal) (e : Fin 2) : EReal := Ideal.logistic (row4 P y e)

/-- `|z|`. -/
def mag (z : EReal) : EReal := max z (-z)

/-- `2·log(1 + e^(−|z|)) + |z|`: minus the logarithm of the sigmoid's derivative at `z`. -/
def penalty (z : EReal) : EReal := 2 * Ideal.log1p (Ideal.exp (0 - mag z)) + mag z

/-- The second result: the log-scales of the four layers, the sum of all the fixed log-scales, and the two lanes'
    sigmoid terms. -/
def logDet (P : Params) (y : Fin 2 → EReal) : EReal :=
  ((0 + logScale P 0 0 y 1 + logScale P 1 1 (row1 P y) 0 + logScale P 2 0 (row2 P y) 1 + logScale P 3 1 (row3 P y) 0)
      + (0 + ∑ i : Fin 4, ∑ e : Fin 2, P.ls i e))
    - penalty (row4 P y 0) - penalty (row4 P y 1)

/-! ## A layer written with a mask -/

/-- The mask that is 1 at lane `d` and 0 at the other. -/
def mask (d e : Fin 2) : EReal := if e = d then 1 else 0

/-- The product of the masked row with the first weights is the one lane's product. -/
theorem masked_first (d : Fin 2) (y w : Fin 2 → EReal) : ∑ e : Fin 2, y e * mask d e * w e = y d * w d := by
  rw [Fin.sum_univ_two]
  match d with
  | ⟨0, _⟩ => simp [mask]
  | ⟨1, _⟩ => simp [mask]

/-- `1 − 1 = 0`. -/
theorem one_sub_one : (1 : EReal) - 1 = 0 := EReal.sub_self (EReal.coe_ne_top 1) (EReal.coe_ne_bot 1)

/-- `mask·y + (1 − mask)·z` takes lane `d` from `y` and the other lane from `z`. -/
theorem masked_pick (d e : Fin 2) (y z : EReal) : mask d e * y + (1 - mask d e) * z = if e = d then y else z := by
  unfold mask
  by_cases h : e = d
  · rw [if_pos h, if_pos h, one_sub_one, one_mul, zero_mul, add_zero]
  · rw [if_neg h, if_neg h, sub_zero, one_mul, zero_mul, zero_add]

/-- The masked sum of the log-scales is the other lane's log-scale, for a mask at lane 0 … -/
theorem masked_sum_zero (f : Fin 2 → EReal) : ∑ e : Fin 2, (1 - mask 0 e) * f e = f 1 := by
  rw [Fin.sum_univ_two]
  simp [mask, one_sub_one]

/-- … and for a mask at lane 1. -/
theorem masked_sum_one (f : Fin 2 → EReal) : ∑ e : Fin 2, (1 - mask 1 e) * f e = f 0 := by
  rw [Fin.sum_univ_two]
  simp [mask, one_sub_one]

/-! ## The sigmoid's log-derivative -/

/-- `log σ(z)` as the reference writes it: minus `log(e^(−z) + e^0)`, the latter as the larger of the two exponents plus
    `log(1 + e^(−|difference|))`. -/
def logSig (z : EReal) : EReal := -(max (-z) 0 + Ideal.log1p (Ideal.exp (-(mag (-z - 0)))))

/-- `|−z| = |z|`. -/
theorem mag_neg (z : EReal) : mag (-z) = mag z := by unfold mag; rw [neg_neg, max_comm]

/-- `|z|` is not negative. -/
theorem mag_nonneg (z : EReal) : 0 ≤ mag z := by
  unfold mag
  rcases le_total 0 z with h | h
  · exact le_max_of_le_left h
  · exact le_max_of_le_right (EReal.neg_nonneg.mpr h)

/-- The positive parts of `−z` and `z` add up to `|z|`. -/
theorem posPart_add (z : EReal) : max (-z) 0 + max z 0 = mag z := by
  unfold mag
  rcases le_total 0 z with h | h
  · have h' : -z ≤ 0 := by simpa using EReal.neg_le_neg_iff.mpr h
    rw [max_eq_right h', max_eq_left h, zero_add, max_eq_left (h'.trans h)]
  · have h' : 0 ≤ -z := EReal.neg_nonneg.mpr h
    rw [max_eq_left h', max_eq_right h, add_zero, max_eq_right (h.trans h')]

/-- `log(1 + e^(−a))` is not negative, and not `⊤`, for `a ≥ 0`. -/
theorem log1p_exp_neg_bounds (a : EReal) (ha : 0 ≤ a) :
    0 ≤ Ideal.log1p (Ideal.exp (-a)) ∧ Ideal.log1p (Ideal.exp (-a)) ≠ ⊤ := by
  induction a with
  | bot => exact absurd ha (by simp)
  | top =>
    have : Ideal.log1p (Ideal.exp (-⊤)) = 0 := by
      show Ideal.log (1 + Ideal.exp (-⊤)) = 0
      rw [EReal.neg_top, Ideal.exp_bot, add_zero, ← EReal.coe_one, Ideal.log_coe, if_neg (by norm_num), Real.log_one,
        EReal.coe_zero]
    rw [this]; exact ⟨le_rfl, by simp⟩
  | coe r =>
    have e : Ideal.log1p (Ideal.exp (-(r : EReal))) = ((Real.log (1 + Real.exp (-r)) : ℝ) : EReal) := by
      show Ideal.log (1 + Ideal.exp (-(r : EReal))) = _
      rw [← EReal.coe_neg, Ideal.exp_coe, ← EReal.coe_one, ← EReal.coe_add, Ideal.log_coe,
        if_neg (by have := Real.exp_pos (-r); linarith)]
    rw [e]
    refine ⟨EReal.coe_nonneg.mpr (Real.log_nonneg (by have := Real.exp_pos (-r); linarith)), EReal.coe_ne_top _⟩

/-- `log σ(z) + log σ(−z) = −(2·log(1 + e^(−|z|)) + |z|)`, at every extended real. -/
theorem logSig_add_logSig_neg (z : EReal) : logSig z + logSig (-z) = -penalty z := by
  unfold logSig penalty
  rw [neg_neg, sub_zero, sub_zero, mag_neg, zero_sub]
  obtain ⟨h0, ht⟩ := log1p_exp_neg_bounds (mag z) (mag_nonneg z)
  generalize Ideal.log1p (Ideal.exp (-mag z)) = L at h0 ht ⊢
  rw [← posPart_add z]
  have pa : (0 : EReal) ≤ max (-z) 0 := le_max_right _ _
  have pb : (0 : EReal) ≤ max z 0 := le_max_right _ _
  have hab : max (-z) 0 + L ≠ ⊥ := fun h => absurd (add_nonneg pa h0) (by rw [h]; simp)
  have hbb : max z 0 + L ≠ ⊥ := fun h => absurd (add_nonneg pb h0) (by rw [h]; simp)
  have h2 : (2 : EReal) * L = L + L := by
    rw [← one_add_one_eq_two, EReal.right_distrib_of_nonneg zero_le_one zero_le_one, one_mul]
  rw [h2, ← sub_eq_add_neg, ← EReal.neg_add (Or.inl hab) (Or.inr hbb)]
  congr 1
  abel

end Cert.Flow

end
-- ==== Proof.Reads.lean ====
/-
  READING ARRAYS AT AN INDEX. Small lemmas, each for any extents: a layer's slice of a stacked parameter array, a row
  laid over all rows, a column laid over all columns. And `params`, the parameters of the flow as the eight argument
  arrays hold them.
-/
module

public import proofs.«01_k».proof.Proof.Model
public import Idealize.ShloMosaic.Lib.ValueIdx
public import Idealize.ShloMosaic.Lib.Pipeline.Value
public import Idealize.ShloMosaic.Lib.KernelVsHost
public import Idealize.ShloMosaic.Lib.IdealHost

@[expose] public section

noncomputable section

namespace Cert.Flow

open Idealize.ShloMosaic Idealize.ShloMosaic.ValueIdx
open scoped BigOperators

/-- The flow's parameters, read from the eight argument arrays. -/
def params (a1 : (⟨3, ![4, 2, 512]⟩ : Shape).Idx → EReal) (a2 : (⟨2, ![4, 512]⟩ : Shape).Idx → EReal)
    (a3 : (⟨3, ![4, 512, 512]⟩ : Shape).Idx → EReal) (a4 : (⟨2, ![4, 512]⟩ : Shape).Idx → EReal)
    (a5 : (⟨3, ![4, 512, 4]⟩ : Shape).Idx → EReal) (a6 : (⟨2, ![4, 4]⟩ : Shape).Idx → EReal)
    (a7 a8 : (⟨2, ![4, 2]⟩ : Shape).Idx → EReal) : Params where
  w1 i d k := a1 (ix3 i d k)
  b1 i k := a2 (ix2 i k)
  w2 i l k := a3 (ix3 i l k)
  b2 i k := a4 (ix2 i k)
  w3 i k j := a5 (ix3 i k j)
  b3 i j := a6 (ix2 i j)
  ls i e := a7 (ix2 i e)
  sh i e := a8 (ix2 i e)

/-- Equal arrays hold equal parameters. -/
theorem params_congr {a1 b1 : (⟨3, ![4, 2, 512]⟩ : Shape).Idx → EReal} {a2 b2 : (⟨2, ![4, 512]⟩ : Shape).Idx → EReal}
    {a3 b3 : (⟨3, ![4, 512, 512]⟩ : Shape).Idx → EReal} {a4 b4 : (⟨2, ![4, 512]⟩ : Shape).Idx → EReal}
    {a5 b5 : (⟨3, ![4, 512, 4]⟩ : Shape).Idx → EReal} {a6 b6 : (⟨2, ![4, 4]⟩ : Shape).Idx → EReal}
    {a7 b7 a8 b8 : (⟨2, ![4, 2]⟩ : Shape).Idx → EReal} (h1 : a1 = b1) (h2 : a2 = b2) (h3 : a3 = b3) (h4 : a4 = b4)
    (h5 : a5 = b5) (h6 : a6 = b6) (h7 : a7 = b7) (h8 : a8 = b8) :
    params a1 a2 a3 a4 a5 a6 a7 a8 = params b1 b2 b3 b4 b5 b6 b7 b8 := by
  rw [h1, h2, h3, h4, h5, h6, h7, h8]

/-- Row `r` of the input, as a function of the lane. -/
def rowOf {n : Nat} (a0 : (⟨2, ![n, 2]⟩ : Shape).Idx → EReal) (r : Fin n) (e : Fin 2) : EReal := a0 (ix2 r e)

section Slices

variable {α : Type}

/-- Layer `i` of a stack of matrices, taken as a slice one thick and cast to a matrix, reads the stack at `i`. -/
theorem layer_matrix {g a b : Nat} (i : Fin g) (x : (⟨3, ![g, a, b]⟩ : Shape).Idx → α)
    (hs : (⟨3, ![g, a, b]⟩ : Shape).Slices ![i.val, 0, 0] ⟨3, ![1, a, b]⟩)
    (hc : (⟨3, ![1, a, b]⟩ : Shape).ShapeCasts ⟨2, ![a, b]⟩) (p : Fin a) (q : Fin b) :
    shapeCast ⟨2, ![a, b]⟩ (extractStridedSlice ⟨3, ![1, a, b]⟩ ![i.val, 0, 0] x hs) hc (ix2 p q) = x (ix3 i p q) := by
  rw [shapeCast_apply _ hc (ix2 p q) (ix3 (0 : Fin 1) p q)
    (by
      rw [Shape.rowMajor_val_three, Shape.rowMajor_val_two]
      show (0 * a + p.val) * b + q.val = p.val * b + q.val
      simp)]
  refine extractStridedSlice_apply _ x hs _ _ fun ax => ?_
  match ax with
  | ⟨0, _⟩ => simp
  | ⟨1, _⟩ => simp
  | ⟨2, _⟩ => simp

/-- Layer `i` of a stack of rows, taken as a slice one thick and cast to a row, reads the stack at `i`. -/
theorem layer_row {g a : Nat} (i : Fin g) (x : (⟨2, ![g, a]⟩ : Shape).Idx → α)
    (hs : (⟨2, ![g, a]⟩ : Shape).Slices ![i.val, 0] ⟨2, ![1, a]⟩)
    (hc : (⟨2, ![1, a]⟩ : Shape).ShapeCasts ⟨1, ![a]⟩) (p : Fin a) :
    shapeCast ⟨1, ![a]⟩ (extractStridedSlice ⟨2, ![1, a]⟩ ![i.val, 0] x hs) hc (ix1 p) = x (ix2 i p) := by
  rw [shapeCast_apply _ hc (ix1 p) (ix2 (0 : Fin 1) p)
    (by
      rw [Shape.rowMajor_val_two, Shape.rowMajor_val_one]
      show 0 * a + p.val = p.val
      simp)]
  refine extractStridedSlice_apply _ x hs _ _ fun ax => ?_
  match ax with
  | ⟨0, _⟩ => simp
  | ⟨1, _⟩ => simp

/-- A row laid over all rows, in the host's two steps, reads the row at the column. -/
theorem row_over_rows {m n : Nat} (h1 : (⟨1, ![n]⟩ : Shape).BroadcastsInDim ⟨2, ![1, n]⟩ ![1])
    (h2 : (⟨2, ![1, n]⟩ : Shape).BroadcastsInDim ⟨2, ![m, n]⟩ ![0, 1]) (v : (⟨1, ![n]⟩ : Shape).Idx → α)
    (r : Fin m) (q : Fin n) :
    broadcastInDim ⟨2, ![m, n]⟩ ![0, 1] h2 (broadcastInDim ⟨2, ![1, n]⟩ ![1] h1 v) (ix2 r q) = v (ix1 q) := by
  rw [broadcastInDim_oneRow_apply]
  refine broadcastInDim_apply _ h1 v _ _ fun ax => ?_
  match ax with
  | ⟨0, _⟩ =>
    show q.val = if n = 1 then 0 else q.val
    split <;> omega

/-- A slice of columns reads the matrix at the shifted column. -/
theorem columns {m n k : Nat} (o : Nat) (x : (⟨2, ![m, n]⟩ : Shape).Idx → α)
    (hs : (⟨2, ![m, n]⟩ : Shape).Slices ![0, o] ⟨2, ![m, k]⟩) (r : Fin m) (e : Fin k) (q : Fin n) (hq : q.val = o + e.val) :
    extractStridedSlice ⟨2, ![m, k]⟩ ![0, o] x hs (ix2 r e) = x (ix2 r q) := by
  refine extractStridedSlice_apply _ x hs _ _ fun ax => ?_
  match ax with
  | ⟨0, _⟩ => simp
  | ⟨1, _⟩ => simpa using hq

/-- A single column laid over all columns reads the column at the row. -/
theorem column_over_columns {m n : Nat} (x : (⟨2, ![m, 1]⟩ : Shape).Idx → α)
    (h : (⟨2, ![m, 1]⟩ : Shape).Broadcasts ⟨2, ![m, n]⟩) (r : Fin m) (q : Fin n) :
    broadcastTo ⟨2, ![m, n]⟩ x h (ix2 r q) = x (ix2 r 0) := by
  refine broadcastTo_apply x h _ _ fun ax => ?_
  match ax with
  | ⟨0, _⟩ =>
    show r.val = if m = 1 then 0 else r.val
    split <;> omega
  | ⟨1, _⟩ => rfl

/-- A one-row matrix laid over all rows reads the row at the column. -/
theorem oneRow_over_rows {m n : Nat} (x : (⟨2, ![1, n]⟩ : Shape).Idx → α)
    (h : (⟨2, ![1, n]⟩ : Shape).Broadcasts ⟨2, ![m, n]⟩) (r : Fin m) (q : Fin n) :
    broadcastTo ⟨2, ![m, n]⟩ x h (ix2 r q) = x (ix2 0 q) := by
  refine broadcastTo_apply x h _ _ fun ax => ?_
  match ax with
  | ⟨0, _⟩ => rfl
  | ⟨1, _⟩ =>
    show q.val = if n = 1 then 0 else q.val
    split <;> omega

/-- A slice one thick, cast to a matrix, reads it at that slice's one index. -/
theorem thin_matrix {a b : Nat} (x : (⟨3, ![1, a, b]⟩ : Shape).Idx → α)
    (hc : (⟨3, ![1, a, b]⟩ : Shape).ShapeCasts ⟨2, ![a, b]⟩) (p : Fin a) (q : Fin b) :
    shapeCast ⟨2, ![a, b]⟩ x hc (ix2 p q) = x (ix3 0 p q) :=
  shapeCast_apply x hc _ _ (by
    rw [Shape.rowMajor_val_three, Shape.rowMajor_val_two]
    show (0 * a + p.val) * b + q.val = p.val * b + q.val
    simp)

end Slices

end Cert.Flow

end
-- ==== Proof.RefLayer.lean ====
/-
  ONE COUPLING LAYER OF THE REFERENCE. The reference's text repeats the same host operations for each of the four
  layers, over all rows at once and with a 0/1 mask over the two lanes. Here they are written once, for any layer `i`,
  any state `X` and any mask `M`, and read at a row: the layer is the flow's layer on that row.
-/
module

public import proofs.«01_k».proof.Proof.Reads
public import proofs.«01_k».proof.Proof.Gen.ReferenceIdeal.Run
public import Idealize.ShloMosaic.Lib.StackMember

@[expose] public section

noncomputable section

namespace Cert.ReferenceIdeal.Layer

open Cert.ReferenceIdeal Cert.ReferenceIdeal.Gen Idealize.ShloMosaic Idealize.ShloMosaic.ValueIdx Idealize.ShloMosaic.StableHlo
open scoped BigOperators

/-- The device's buffers, over the extended reals. -/
local notation "Bufs" => Valuation τ sig (Elt Ideal)

/-- Parameter argument 1. -/
abbrev W1 (V0 : Bufs) : FVec Ideal S4x2x512 .f32 := V0 (Proc.devRef .tc main_arg1)
/-- Parameter argument 2. -/
abbrev B1 (V0 : Bufs) : FVec Ideal S4x512 .f32 := V0 (Proc.devRef .tc main_arg2)
/-- Parameter argument 3. -/
abbrev W2 (V0 : Bufs) : FVec Ideal S4x512x512 .f32 := V0 (Proc.devRef .tc main_arg3)
/-- Parameter argument 4. -/
abbrev B2 (V0 : Bufs) : FVec Ideal S4x512 .f32 := V0 (Proc.devRef .tc main_arg4)
/-- Parameter argument 5. -/
abbrev W3 (V0 : Bufs) : FVec Ideal S4x512x4 .f32 := V0 (Proc.devRef .tc main_arg5)
/-- Parameter argument 6. -/
abbrev B3 (V0 : Bufs) : FVec Ideal S4x4 .f32 := V0 (Proc.devRef .tc main_arg6)
/-- Parameter argument 7. -/
abbrev LS (V0 : Bufs) : FVec Ideal S4x2 .f32 := V0 (Proc.devRef .tc main_arg7)
/-- Parameter argument 8. -/
abbrev SH (V0 : Bufs) : FVec Ideal S4x2 .f32 := V0 (Proc.devRef .tc main_arg8)

/-- The flow's parameters as the eight parameter arguments hold them. -/
def P (V0 : Bufs) : Flow.Params :=
  Flow.params (W1 V0) (B1 V0) (W2 V0)
    (B2 V0) (W3 V0) (B3 V0)
    (LS V0) (SH V0)

/-- Layer `i`'s slices lie inside the parameter arrays. -/
structure Cuts (i : Fin 4) : Prop where
  w1 : S4x2x512.Slices ![i.val, 0, 0] S1x2x512
  b : S4x512.Slices ![i.val, 0] S1x512
  w2 : S4x512x512.Slices ![i.val, 0, 0] S1x512x512
  w3 : S4x512x4.Slices ![i.val, 0, 0] S1x512x4
  b3 : S4x4.Slices ![i.val, 0] S1x4
  s : S4x2.Slices ![i.val, 0] S1x2

/-- The slices of layer 0 fit; -/
theorem cuts0 : Cuts 0 := ⟨slices_S4x2x512_S1x2x512_0_0_0, slices_S4x512_S1x512_0_0, slices_S4x512x512_S1x512x512_0_0_0,
  slices_S4x512x4_S1x512x4_0_0_0, slices_S4x4_S1x4_0_0, slices_S4x2_S1x2_0_0⟩
/-- of layer 1; -/
theorem cuts1 : Cuts 1 := ⟨slices_S4x2x512_S1x2x512_1_0_0, slices_S4x512_S1x512_1_0, slices_S4x512x512_S1x512x512_1_0_0,
  slices_S4x512x4_S1x512x4_1_0_0, slices_S4x4_S1x4_1_0, slices_S4x2_S1x2_1_0⟩
/-- of layer 2; -/
theorem cuts2 : Cuts 2 := ⟨slices_S4x2x512_S1x2x512_2_0_0, slices_S4x512_S1x512_2_0, slices_S4x512x512_S1x512x512_2_0_0,
  slices_S4x512x4_S1x512x4_2_0_0, slices_S4x4_S1x4_2_0, slices_S4x2_S1x2_2_0⟩
/-- of layer 3. -/
theorem cuts3 : Cuts 3 := ⟨slices_S4x2x512_S1x2x512_3_0_0, slices_S4x512_S1x512_3_0, slices_S4x512x512_S1x512x512_3_0_0,
  slices_S4x512x4_S1x512x4_3_0_0, slices_S4x4_S1x4_3_0, slices_S4x2_S1x2_3_0⟩

/-! ## The host's operations, once -/

/-- A row of two laid over all rows. -/
def over2 (v : FVec Ideal S2 .f32) : FVec Ideal S524288x2 .f32 :=
  broadcastInDim S524288x2 ![0, 1] bcast_S1x2_S524288x2_0_1 (broadcastInDim S1x2 ![1] bcast_S2_S1x2_1 v)

/-- A row of 512 laid over all rows. -/
def over512 (v : FVec Ideal S512 .f32) : FVec Ideal S524288x512 .f32 :=
  broadcastInDim S524288x512 ![0, 1] bcast_S1x512_S524288x512_0_1 (broadcastInDim S1x512 ![1] bcast_S512_S1x512_1 v)

/-- A row of four laid over all rows. -/
def over4 (v : FVec Ideal S4 .f32) : FVec Ideal S524288x4 .f32 :=
  broadcastInDim S524288x4 ![0, 1] bcast_S1x4_S524288x4_0_1 (broadcastInDim S1x4 ![1] bcast_S4_S1x4_1 v)

/-- The relu of the host: the maximum with a zero laid over the whole array. -/
def relu (x : FVec Ideal S524288x512 .f32) : FVec Ideal S524288x512 .f32 :=
  maximumf x (broadcastInDim S524288x512 ![] bcast_S_S524288x512 (constant S_ .f32 0x00000000#32))

/-- One minus the mask. -/
def other (M : FVec Ideal S2 .f32) : FVec Ideal S2 .f32 :=
  subf (broadcastInDim S2 ![] bcast_S_S2 (constant S_ .f32 0x3F800000#32)) M

/-- Row `i` of a four-by-two parameter array. -/
def pair (i : Fin 4) (h : Cuts i) (a : FVec Ideal S4x2 .f32) : FVec Ideal S2 .f32 :=
  shapeCast _ (extractStridedSlice S1x2 ![i.val, 0] a h.s) shapeCasts_S1x2_S2

/-- The conditioner network of layer `i` on the state `X` masked by `M`. -/
def network (i : Fin 4) (h : Cuts i) (V0 : Bufs) (X : FVec Ideal S524288x2 .f32) (M : FVec Ideal S2 .f32) :
    FVec Ideal S524288x4 .f32 :=
  addf (Host.dotGeneral dot_S524288x512_S512x4_S524288x4_1_0_0_1_n_n none
    (relu (addf (Host.dotGeneral dot_S524288x512_S512x512_S524288x512_1_0_0_1_n_n none
      (relu (addf (Host.dotGeneral dot_S524288x2_S2x512_S524288x512_1_0_0_1_n_n none (mulf X (over2 M))
          (shapeCast _ (extractStridedSlice S1x2x512 ![i.val, 0, 0] (W1 V0) h.w1) shapeCasts_S1x2x512_S2x512))
        (over512 (shapeCast _ (extractStridedSlice S1x512 ![i.val, 0] (B1 V0) h.b) shapeCasts_S1x512_S512))))
      (shapeCast _ (extractStridedSlice S1x512x512 ![i.val, 0, 0] (W2 V0) h.w2) shapeCasts_S1x512x512_S512x512))
      (over512 (shapeCast _ (extractStridedSlice S1x512 ![i.val, 0] (B2 V0) h.b) shapeCasts_S1x512_S512))))
    (shapeCast _ (extractStridedSlice S1x512x4 ![i.val, 0, 0] (W3 V0) h.w3) shapeCasts_S1x512x4_S512x4))
    (over4 (shapeCast _ (extractStridedSlice S1x4 ![i.val, 0] (B3 V0) h.b3) shapeCasts_S1x4_S4))

/-- The log-scales: the hyperbolic tangent of the network's first two outputs. -/
def scales (N : FVec Ideal S524288x4 .f32) : FVec Ideal S524288x2 .f32 :=
  Host.tanh (extractStridedSlice S524288x2 ![0, 0] N slices_S524288x4_S524288x2_0_0)

/-- The state after layer `i`, from the state `X`, the mask `M`, the log-scales `S` and the network's outputs `N`. -/
def next (i : Fin 4) (h : Cuts i) (V0 : Bufs) (X : FVec Ideal S524288x2 .f32) (M : FVec Ideal S2 .f32)
    (S : FVec Ideal S524288x2 .f32) (N : FVec Ideal S524288x4 .f32) : FVec Ideal S524288x2 .f32 :=
  addf (mulf (addf (mulf (over2 M) X) (mulf (over2 (other M)) (addf (mulf X (Host.exp S))
      (extractStridedSlice S524288x2 ![0, 2] N slices_S524288x4_S524288x2_0_2))))
    (over2 (Host.exp (pair i h (LS V0)))))
    (over2 (pair i h (SH V0)))

/-- What the layer adds to the log-determinant: the sum over the two lanes of the log-scales the mask leaves. -/
def gain (M : FVec Ideal S2 .f32) (S : FVec Ideal S524288x2 .f32) : FVec Ideal S524288 .f32 :=
  Host.reduceAdd (mulf (over2 (other M)) S) (constant S_ .f32 0x00000000#32) reducesTo_S524288x2_S524288_d1 h_S_

/-- What the fixed log-scales of layer `i` add to it: the sum of the row, laid over all rows. -/
def fixedGain (i : Fin 4) (h : Cuts i) (V0 : Bufs) : FVec Ideal S524288 .f32 :=
  broadcastInDim S524288 ![] bcast_S_S524288 (Host.reduceAdd (pair i h (LS V0))
    (constant S_ .f32 0x00000000#32) reducesTo_S2_S_d0 h_S_)

/-! ## Read at a row -/

/-- A row of two, laid over all rows, at a row; -/
theorem over2_apply (v : FVec Ideal S2 .f32) (r : Fin 524288) (e : Fin 2) : over2 v (ix2 r e) = v (ix1 e) :=
  Flow.row_over_rows _ _ v r e
/-- a row of 512; -/
theorem over512_apply (v : FVec Ideal S512 .f32) (r : Fin 524288) (k : Fin 512) : over512 v (ix2 r k) = v (ix1 k) :=
  Flow.row_over_rows _ _ v r k
/-- a row of four. -/
theorem over4_apply (v : FVec Ideal S4 .f32) (r : Fin 524288) (j : Fin 4) : over4 v (ix2 r j) = v (ix1 j) :=
  Flow.row_over_rows _ _ v r j

/-- The rectifier at an entry is the maximum with 0. -/
theorem relu_apply (x : FVec Ideal S524288x512 .f32) (j : S524288x512.Idx) : relu x j = max (x j) 0 := by
  unfold relu
  rw [maximumf_apply, broadcastInDim_scalar_apply, constant_apply, Ideal.ofBits_zero_f32]

/-- The complement of a mask at a lane is one minus it. -/
theorem other_apply (M : FVec Ideal S2 .f32) (e : Fin 2) : other M (ix1 e) = 1 - M (ix1 e) := by
  unfold other
  rw [subf_apply, broadcastInDim_scalar_apply, constant_apply, Ideal.ofBits_one_f32]

/-- Layer `i`'s pair of a 4×2 array, at a lane. -/
theorem pair_apply (i : Fin 4) (h : Cuts i) (a : FVec Ideal S4x2 .f32) (e : Fin 2) : pair i h a (ix1 e) = a (ix2 i e) :=
  Flow.layer_row i a h.s _ e

/-- A product of all rows with a matrix, at a row and a column: the sum over the middle axis. -/
theorem dot2_apply (A : FVec Ideal S524288x2 .f32) (B : FVec Ideal S2x512 .f32) (r : Fin 524288) (k : Fin 512) :
    Host.dotGeneral dot_S524288x2_S2x512_S524288x512_1_0_0_1_n_n none A B (ix2 r k) = ∑ e : Fin 2, A (ix2 r e) * B (ix2 e k) :=
  StackMember.dotGeneral_plain_apply none A B r k
/-- A product into 512 columns, at a row and a column; -/
theorem dot512_apply (A : FVec Ideal S524288x512 .f32) (B : FVec Ideal S512x512 .f32) (r : Fin 524288) (k : Fin 512) :
    Host.dotGeneral dot_S524288x512_S512x512_S524288x512_1_0_0_1_n_n none A B (ix2 r k) = ∑ l : Fin 512, A (ix2 r l) * B (ix2 l k) :=
  StackMember.dotGeneral_plain_apply none A B r k
/-- a product into four columns. -/
theorem dot4_apply (A : FVec Ideal S524288x512 .f32) (B : FVec Ideal S512x4 .f32) (r : Fin 524288) (j : Fin 4) :
    Host.dotGeneral dot_S524288x512_S512x4_S524288x4_1_0_0_1_n_n none A B (ix2 r j) = ∑ k : Fin 512, A (ix2 r k) * B (ix2 k j) :=
  StackMember.dotGeneral_plain_apply none A B r j

section AtRow

variable (i : Fin 4) (h : Cuts i) (V0 : Bufs) (X : FVec Ideal S524288x2 .f32) (M : FVec Ideal S2 .f32) (d : Fin 2)
  (hM : ∀ e, M (ix1 e) = Flow.mask d e) (r : Fin 524288)

include hM in
/-- The network at a row is the flow's network on the row, reading the mask's lane. -/
theorem network_apply (j : Fin 4) : network i h V0 X M (ix2 r j) = Flow.cond (P V0) i d (Flow.rowOf X r) j := by
  unfold network Flow.cond Flow.net Flow.tailNet
  rw [addf_apply, dot4_apply, over4_apply, Flow.layer_row i _ h.b3]
  refine congrArg₂ (· + ·) (Finset.sum_congr rfl fun k _ => ?_) rfl
  rw [relu_apply, addf_apply, dot512_apply, over512_apply, Flow.layer_row i _ h.b, Flow.layer_matrix i _ h.w3]
  refine congrArg₂ (· * ·) (congrArg₂ max (congrArg₂ (· + ·) (Finset.sum_congr rfl fun l _ => ?_) rfl) rfl) rfl
  rw [relu_apply, addf_apply, dot2_apply, over512_apply, Flow.layer_row i _ h.b, Flow.layer_matrix i _ h.w2]
  refine congrArg₂ (· * ·) (congrArg₂ max (congrArg₂ (· + ·) ?_ rfl) rfl) rfl
  rw [← Flow.masked_first d (Flow.rowOf X r) ((P V0).w1 i · l)]
  refine Finset.sum_congr rfl fun e _ => ?_
  rw [mulf_apply, over2_apply, hM, Flow.layer_matrix i _ h.w1]
  rfl

include hM in
/-- The log-scales at a row. -/
theorem scales_apply (e : Fin 2) :
    scales (network i h V0 X M) (ix2 r e) = Flow.logScale (P V0) i d (Flow.rowOf X r) e := by
  unfold scales Flow.logScale
  show Ideal.tanh (extractStridedSlice S524288x2 ![0, 0] (network i h V0 X M) _ (ix2 r e)) = _
  rw [Flow.columns 0 _ _ r e ⟨e.val, by omega⟩ (by simp), network_apply i h V0 X M d hM r]

include hM in
/-- The state after the layer, at a row, is the flow's layer on the row. -/
theorem next_apply (e : Fin 2) :
    next i h V0 X M (scales (network i h V0 X M)) (network i h V0 X M) (ix2 r e)
      = Flow.step (P V0) i d (Flow.rowOf X r) e := by
  unfold next Flow.step
  rw [addf_apply, mulf_apply, addf_apply, mulf_apply, mulf_apply, addf_apply, mulf_apply, over2_apply, over2_apply,
    over2_apply, over2_apply, other_apply, hM, pair_apply,
    Flow.columns 2 _ _ r e ⟨2 + e.val, by omega⟩ rfl, network_apply i h V0 X M d hM r, ← Flow.masked_pick]
  show (_ + _ * (_ * Ideal.exp (scales (network i h V0 X M) (ix2 r e)) + _)) * Ideal.exp (pair i h _ (ix1 e)) + _ = _
  rw [scales_apply i h V0 X M d hM r, pair_apply]
  rfl

end AtRow

/-- The sum over the two lanes of an array of rows, at a row. -/
theorem laneSum_apply (x : FVec Ideal S524288x2 .f32) (r : Fin 524288) :
    Host.reduceAdd x (constant S_ .f32 0x00000000#32) reducesTo_S524288x2_S524288_d1 h_S_ (ix1 r)
      = 0 + ∑ e : Fin 2, x (ix2 r e) := by
  rw [hostReduceAdd_apply, constant_apply, Ideal.ofBits_zero_f32,
    Ideal.hostReduceAdd_single _ (show S524288x2.Reduces [1] S524288 by decide)]
  refine congrArg (0 + ·) (Finset.sum_congr rfl fun e _ => congrArg x ?_)
  funext a
  match a with
  | ⟨0, _⟩ => rfl
  | ⟨1, _⟩ => rfl

/-- The layer's gain at a row: the log-scale at the lane the mask does not keep. -/
theorem gain_apply (i : Fin 4) (h : Cuts i) (V0 : Bufs) (X : FVec Ideal S524288x2 .f32) (M : FVec Ideal S2 .f32)
    (d : Fin 2) (hM : ∀ e, M (ix1 e) = Flow.mask d e) (r : Fin 524288) :
    gain M (scales (network i h V0 X M)) (ix1 r)
      = 0 + ∑ e : Fin 2, (1 - Flow.mask d e) * Flow.logScale (P V0) i d (Flow.rowOf X r) e := by
  unfold gain
  rw [laneSum_apply]
  refine congrArg (0 + ·) (Finset.sum_congr rfl fun e _ => ?_)
  rw [mulf_apply, over2_apply, other_apply, hM, scales_apply i h V0 X M d hM r]

/-- The fixed gain at a row. -/
theorem fixedGain_apply (i : Fin 4) (h : Cuts i) (V0 : Bufs) (r : Fin 524288) :
    fixedGain i h V0 (ix1 r) = 0 + ∑ e : Fin 2, (P V0).ls i e := by
  unfold fixedGain
  rw [broadcastInDim_scalar_apply, hostReduceAdd_apply, constant_apply, Ideal.ofBits_zero_f32,
    Ideal.hostReduceAdd_total _ (fun b => b.elim0)]
  refine congrArg (0 + ·) ?_
  rw [← Equiv.sum_comp (⟨fun e => ix1 e, fun j => j 0, fun _ => rfl, fun j => (eq_ix1 j).symm⟩ : Fin 2 ≃ S2.Idx)]
  exact Finset.sum_congr rfl fun e _ => pair_apply i h _ e

end Cert.ReferenceIdeal.Layer

end
-- ==== Proof.Reference.lean ====
/-
  WHAT THE REFERENCE COMPUTES. Its four layers are the layer of RefLayer.lean, one after another, so its state after
  each is the flow's row; its first result is the flow's `out` and its second the flow's `logDet`, row by row.
-/
module

public import proofs.«01_k».proof.Proof.RefLayer

@[expose] public section

noncomputable section

namespace Cert.ReferenceIdeal.Layer

open Cert.ReferenceIdeal Cert.ReferenceIdeal.Gen Cert.ReferenceIdeal.Value
open Idealize.ShloMosaic Idealize.ShloMosaic.ValueIdx Idealize.ShloMosaic.StableHlo
open Idealize.SL.Sem
open scoped BigOperators

/-- The device's buffers, over the extended reals. -/
local notation "Bufs" => Valuation τ sig (Elt Ideal)

variable (V0 : Bufs)

/-- The input rows. -/
abbrev X0 : FVec Ideal S524288x2 .f32 := V0 (Proc.devRef .tc main_arg0)

/-! ## The masks -/

/-- The word of 1.0 at lane 0 and of 0.0 at lane 1 is the mask of lane 0 … -/
theorem mask0_apply (e : Fin 2) : Ideal.ofBits .f32 (lit0 e) = Flow.mask 0 e := by
  match e with
  | ⟨0, _⟩ => exact Ideal.ofBits_one_f32
  | ⟨1, _⟩ => exact Ideal.ofBits_zero_f32

/-- … and the other way round the mask of lane 1. -/
theorem mask1_apply (e : Fin 2) : Ideal.ofBits .f32 (lit1 e) = Flow.mask 1 e := by
  match e with
  | ⟨0, _⟩ => exact Ideal.ofBits_zero_f32
  | ⟨1, _⟩ => exact Ideal.ofBits_one_f32

/-- A vector's position in row-major order is its coordinate. -/
theorem pos (e : Fin 2) : S2.rowMajor (ix1 e) = e := Fin.ext (Shape.rowMajor_val_one _)

/-- The mask constants: layers 0 and 2 keep lane 0, -/
theorem cst_apply (e : Fin 2) : res_main_cst V0 (ix1 e) = Flow.mask 0 e := by
  show Ideal.ofBits .f32 (lit0 (S2.rowMajor (ix1 e))) = _
  rw [pos, mask0_apply]
/-- layers 1 and 3 keep lane 1. -/
theorem cst_0_apply (e : Fin 2) : res_main_cst_0 V0 (ix1 e) = Flow.mask 1 e := by
  show Ideal.ofBits .f32 (lit1 (S2.rowMajor (ix1 e))) = _
  rw [pos, mask1_apply]
/-- (layer 2) -/
theorem cst_1_apply (e : Fin 2) : res_main_cst_1 V0 (ix1 e) = Flow.mask 0 e := cst_apply V0 e
/-- (layer 3) -/
theorem cst_2_apply (e : Fin 2) : res_main_cst_2 V0 (ix1 e) = Flow.mask 1 e := cst_0_apply V0 e

/-! ## The four layers, as the reference's terms -/

/-- Layer 0's network, -/
theorem v29_eq : res_main_v29 V0 = network 0 cuts0 V0 (X0 V0) (res_main_cst V0) := rfl
/-- its log-scales -/
theorem v31_eq : res_main_v31 V0 = scales (network 0 cuts0 V0 (X0 V0) (res_main_cst V0)) := rfl
/-- and the state after it; -/
theorem v62_eq : res_main_v62 V0 = next 0 cuts0 V0 (X0 V0) (res_main_cst V0) (res_main_v31 V0) (res_main_v29 V0) := rfl
/-- layer 1's network, -/
theorem v96_eq : res_main_v96 V0 = network 1 cuts1 V0 (res_main_v62 V0) (res_main_cst_0 V0) := rfl
/-- its log-scales -/
theorem v98_eq : res_main_v98 V0 = scales (network 1 cuts1 V0 (res_main_v62 V0) (res_main_cst_0 V0)) := rfl
/-- and the state after it; -/
theorem v129_eq : res_main_v129 V0
    = next 1 cuts1 V0 (res_main_v62 V0) (res_main_cst_0 V0) (res_main_v98 V0) (res_main_v96 V0) := rfl
/-- layer 2's network, -/
theorem v163_eq : res_main_v163 V0 = network 2 cuts2 V0 (res_main_v129 V0) (res_main_cst_1 V0) := rfl
/-- its log-scales -/
theorem v165_eq : res_main_v165 V0 = scales (network 2 cuts2 V0 (res_main_v129 V0) (res_main_cst_1 V0)) := rfl
/-- and the state after it; -/
theorem v196_eq : res_main_v196 V0
    = next 2 cuts2 V0 (res_main_v129 V0) (res_main_cst_1 V0) (res_main_v165 V0) (res_main_v163 V0) := rfl
/-- layer 3's network, -/
theorem v230_eq : res_main_v230 V0 = network 3 cuts3 V0 (res_main_v196 V0) (res_main_cst_2 V0) := rfl
/-- its log-scales -/
theorem v232_eq : res_main_v232 V0 = scales (network 3 cuts3 V0 (res_main_v196 V0) (res_main_cst_2 V0)) := rfl
/-- and the state after it. -/
theorem v263_eq : res_main_v263 V0
    = next 3 cuts3 V0 (res_main_v196 V0) (res_main_cst_2 V0) (res_main_v232 V0) (res_main_v230 V0) := rfl

/-! ## The state after each layer, at a row -/

/-- The state after the first layer is the flow's first row. -/
theorem row1_eq (r : Fin 524288) : Flow.rowOf (res_main_v62 V0) r = Flow.row1 (P V0) (Flow.rowOf (X0 V0) r) :=
  funext fun e => by
    show res_main_v62 V0 (ix2 r e) = _
    rw [v62_eq, v31_eq, v29_eq]
    exact next_apply 0 cuts0 V0 (X0 V0) _ 0 (cst_apply V0) r e
/-- The state after the second layer is the flow's second row. -/
theorem row2_eq (r : Fin 524288) : Flow.rowOf (res_main_v129 V0) r = Flow.row2 (P V0) (Flow.rowOf (X0 V0) r) :=
  funext fun e => by
    show res_main_v129 V0 (ix2 r e) = Flow.step (P V0) 1 1 (Flow.row1 (P V0) (Flow.rowOf (X0 V0) r)) e
    rw [v129_eq, v98_eq, v96_eq, ← row1_eq]
    exact next_apply 1 cuts1 V0 (res_main_v62 V0) _ 1 (cst_0_apply V0) r e
/-- The state after the third layer is the flow's third row. -/
theorem row3_eq (r : Fin 524288) : Flow.rowOf (res_main_v196 V0) r = Flow.row3 (P V0) (Flow.rowOf (X0 V0) r) :=
  funext fun e => by
    show res_main_v196 V0 (ix2 r e) = Flow.step (P V0) 2 0 (Flow.row2 (P V0) (Flow.rowOf (X0 V0) r)) e
    rw [v196_eq, v165_eq, v163_eq, ← row2_eq]
    exact next_apply 2 cuts2 V0 (res_main_v129 V0) _ 0 (cst_1_apply V0) r e
/-- The state after the fourth layer is the flow's last row. -/
theorem row4_eq (r : Fin 524288) : Flow.rowOf (res_main_v263 V0) r = Flow.row4 (P V0) (Flow.rowOf (X0 V0) r) :=
  funext fun e => by
    show res_main_v263 V0 (ix2 r e) = Flow.step (P V0) 3 1 (Flow.row3 (P V0) (Flow.rowOf (X0 V0) r)) e
    rw [v263_eq, v232_eq, v230_eq, ← row3_eq]
    exact next_apply 3 cuts3 V0 (res_main_v196 V0) _ 1 (cst_2_apply V0) r e

/-! ## The gains, at a row -/

/-- Layer 0's gain at a row is the log-scale of lane 1; -/
theorem gain0_eq (r : Fin 524288) : gain (res_main_cst V0) (res_main_v31 V0) (ix1 r)
    = 0 + Flow.logScale (P V0) 0 0 (Flow.rowOf (X0 V0) r) 1 := by
  rw [v31_eq, gain_apply 0 cuts0 V0 (X0 V0) _ 0 (cst_apply V0) r, Flow.masked_sum_zero]
/-- layer 1's, of lane 0; -/
theorem gain1_eq (r : Fin 524288) : gain (res_main_cst_0 V0) (res_main_v98 V0) (ix1 r)
    = 0 + Flow.logScale (P V0) 1 1 (Flow.row1 (P V0) (Flow.rowOf (X0 V0) r)) 0 := by
  rw [v98_eq, gain_apply 1 cuts1 V0 (res_main_v62 V0) _ 1 (cst_0_apply V0) r, Flow.masked_sum_one, row1_eq]
/-- layer 2's, of lane 1; -/
theorem gain2_eq (r : Fin 524288) : gain (res_main_cst_1 V0) (res_main_v165 V0) (ix1 r)
    = 0 + Flow.logScale (P V0) 2 0 (Flow.row2 (P V0) (Flow.rowOf (X0 V0) r)) 1 := by
  rw [v165_eq, gain_apply 2 cuts2 V0 (res_main_v129 V0) _ 0 (cst_1_apply V0) r, Flow.masked_sum_zero, row2_eq]
/-- layer 3's, of lane 0. -/
theorem gain3_eq (r : Fin 524288) : gain (res_main_cst_2 V0) (res_main_v232 V0) (ix1 r)
    = 0 + Flow.logScale (P V0) 3 1 (Flow.row3 (P V0) (Flow.rowOf (X0 V0) r)) 0 := by
  rw [v232_eq, gain_apply 3 cuts3 V0 (res_main_v196 V0) _ 1 (cst_2_apply V0) r, Flow.masked_sum_one, row3_eq]

/-! ## The closing sigmoid -/

/-- A zero laid over all rows. -/
def zeros : FVec Ideal S524288x2 .f32 := broadcastInDim S524288x2 ![] bcast_S_S524288x2 (constant S_ .f32 0x00000000#32)

/-- The host's log-sigmoid, from the negated argument `N`: minus the softplus of `N`, which takes `N + 0` where
    `N − 0` is not equal to itself. -/
def hostLogSig (N : FVec Ideal S524288x2 .f32) : FVec Ideal S524288x2 .f32 :=
  Host.negf (select (cmpf .une (subf N zeros) (subf N zeros)) (addf N zeros)
    (addf (maximumf N zeros) (Host.log1p (Host.exp (Host.negf (Host.absf (subf N zeros)))))))

/-- The array of zeros at an entry. -/
theorem zeros_apply (j : S524288x2.Idx) : zeros j = 0 := by
  unfold zeros
  rw [broadcastInDim_scalar_apply, constant_apply, Ideal.ofBits_zero_f32]

/-- Every extended real is equal to itself, so the host's log-sigmoid always takes its second branch. -/
theorem hostLogSig_apply (N : FVec Ideal S524288x2 .f32) (j : S524288x2.Idx) (z : EReal) (hz : N j = -z) :
    hostLogSig N j = Flow.logSig z := by
  have hc : cmpf .une (subf N zeros) (subf N zeros) j = 0#1 := by
    rw [cmpf_apply]
    simp [Ideal.cmpf_def, Ideal.cmp]
  unfold hostLogSig
  show -(select (cmpf .une (subf N zeros) (subf N zeros)) (addf N zeros) _ j) = _
  rw [select_apply, hc]
  show -(max (N j) (zeros j) + Ideal.log1p (Ideal.exp (-(max (N j - zeros j) (-(N j - zeros j)))))) = _
  rw [hz, zeros_apply]
  rfl

/-- The first result at a row and a lane is the flow's `out`. -/
theorem sigmoid_apply (r : Fin 524288) (e : Fin 2) :
    Host.divf (broadcastInDim S524288x2 ![] bcast_S_S524288x2 (constant S_ .f32 0x3F800000#32))
      (addf (broadcastInDim S524288x2 ![] bcast_S_S524288x2 (constant S_ .f32 0x3F800000#32))
        (Host.exp (Host.negf (res_main_v263 V0)))) (ix2 r e)
      = Flow.out (P V0) (Flow.rowOf (X0 V0) r) e := by
  unfold Flow.out
  rw [← row4_eq, hostDivf_apply, addf_apply, broadcastInDim_scalar_apply, constant_apply, Ideal.ofBits_one_f32]
  rfl

/-- The sum of the two log-sigmoids of the last state at a row and a lane is minus the flow's penalty. -/
theorem logSigs_apply (r : Fin 524288) (e : Fin 2) :
    addf (hostLogSig (res_main_call8_v0 V0)) (hostLogSig (res_main_call9_v0 V0)) (ix2 r e)
      = -Flow.penalty (Flow.row4 (P V0) (Flow.rowOf (X0 V0) r) e) := by
  rw [← row4_eq, addf_apply, hostLogSig_apply (res_main_call8_v0 V0) _ (Flow.rowOf (res_main_v263 V0) r e) rfl,
    hostLogSig_apply (res_main_call9_v0 V0) _ (-Flow.rowOf (res_main_v263 V0) r e) rfl, Flow.logSig_add_logSig_neg]

/-! ## The second result -/

/-- The reference's log-determinant, as one term. -/
def hostLogDet : FVec Ideal S524288 .f32 :=
  addf (addf (addf (addf (addf (addf (addf (addf (addf (broadcastInDim S524288 ![] bcast_S_S524288 (constant S_ .f32 0x00000000#32))
    (gain (res_main_cst V0) (res_main_v31 V0))) (fixedGain 0 cuts0 V0))
    (gain (res_main_cst_0 V0) (res_main_v98 V0))) (fixedGain 1 cuts1 V0))
    (gain (res_main_cst_1 V0) (res_main_v165 V0))) (fixedGain 2 cuts2 V0))
    (gain (res_main_cst_2 V0) (res_main_v232 V0))) (fixedGain 3 cuts3 V0))
    (Host.reduceAdd (addf (hostLogSig (res_main_call8_v0 V0)) (hostLogSig (res_main_call9_v0 V0)))
      (constant S_ .f32 0x00000000#32) reducesTo_S524288x2_S524288_d1 h_S_)

/-- The second result at a row is the flow's `logDet`: the same summands, added in another order. -/
theorem logDet_apply (r : Fin 524288) : hostLogDet V0 (ix1 r) = Flow.logDet (P V0) (Flow.rowOf (X0 V0) r) := by
  unfold hostLogDet Flow.logDet
  iterate 9 rw [addf_apply]
  rw [gain0_eq, gain1_eq, gain2_eq, gain3_eq, fixedGain_apply, fixedGain_apply, fixedGain_apply, fixedGain_apply,
    laneSum_apply, broadcastInDim_scalar_apply, constant_apply, Ideal.ofBits_zero_f32]
  simp only [logSigs_apply, Fin.sum_univ_two, Fin.sum_univ_four, sub_eq_add_neg, zero_add]
  generalize -Flow.penalty (Flow.row4 (P V0) (Flow.rowOf (X0 V0) r) 0) = p
  generalize -Flow.penalty (Flow.row4 (P V0) (Flow.rowOf (X0 V0) r) 1) = q
  abel

/-- THE REFERENCE'S RUN: its first result is the flow's `out` and its second the flow's `logDet`, row by row; the
    arguments are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ (i : Fin 524288) (e : Fin 2), r.2.mem ((c.tc : Thread nD τ).loc main_v280) (ix2 i e)
        = Flow.out (P (launchContents m c)) (Flow.rowOf (X0 (launchContents m c)) i) e)
      ∧ (∀ i : Fin 524288, r.2.mem ((c.tc : Thread nD τ).loc main_v274) (ix1 i)
        = Flow.logDet (P (launchContents m c)) (Flow.rowOf (X0 (launchContents m c)) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c =>
    ⟨fun i e => (congrFun (h c).1 (ix2 i e)).trans (sigmoid_apply _ i e),
      fun i => (congrFun (h c).2.1 (ix1 i)).trans (logDet_apply _ i), (h c).2.2⟩)
    (Value.run (F := Ideal) m ρ)

end Cert.ReferenceIdeal.Layer

end
-- ==== Proof.Block.lean ====
/-
  ONE BLOCK OF THE KERNEL, AT A ROW. A grid point reads 2048 rows of the input as two columns, the whole parameter
  arrays, and the small tables of biases, scales and shifts by cell. Its text repeats a coupling layer four times; here
  the layer is written once, for any layer `i`, any lane `d` it reads and the other lane `e`, and read at a row: it is
  the flow's layer on that row. Then the four layers, the log-determinant and the closing sigmoid.
-/
module

public import proofs.«01_k».proof.Proof.Reads
public import proofs.«01_k».proof.Proof.Gen.KernelIdeal.Skeleton
public import Idealize.ShloMosaic.Lib.Pipeline.ValueKit.Tiles
public import Idealize.ShloMosaic.Lib.MatmulPlain

@[expose] public section

noncomputable section

namespace Cert.KernelIdeal.Block

open Cert.KernelIdeal Cert.KernelIdeal.Gen Idealize.ShloMosaic Idealize.ShloMosaic.ValueIdx
open scoped BigOperators

/-! ## What a block reads -/

/-- The ten input blocks of a grid point. -/
structure Ins where
  /-- the rows -/
  x0 : Vec Ideal S2048x2 .f32
  /-- the first weights and bias -/
  x1 : Vec Ideal S4x2x512 .bf16
  x2 : Vec Ideal S4x512 .bf16
  /-- the second weights and bias -/
  x3 : Vec Ideal S4x512x512 .bf16
  x4 : Vec Ideal S4x512 .bf16
  /-- the third weights, and the third bias as a table of sixteen -/
  x5 : Vec Ideal S4x512x4 .bf16
  x6 : Vec Ideal S16 .f32
  /-- the exponentials of the fixed log-scales and the shifts, as tables of eight -/
  x7 : Vec Ideal S8 .f32
  x8 : Vec Ideal S8 .f32
  /-- the sum of all fixed log-scales -/
  x9 : Vec Ideal S1 .f32

/-- The blocks hold the flow's parameters `P`. -/
structure Holds (P : Flow.Params) (B : Ins) : Prop where
  w1 : ∀ i d k, B.x1 (ix3 i d k) = P.w1 i d k
  b1 : ∀ i k, B.x2 (ix2 i k) = P.b1 i k
  w2 : ∀ i l k, B.x3 (ix3 i l k) = P.w2 i l k
  b2 : ∀ i k, B.x4 (ix2 i k) = P.b2 i k
  w3 : ∀ i k j, B.x5 (ix3 i k j) = P.w3 i k j
  b3 : ∀ (i j : Fin 4) (n : Fin 16), n.val = 4 * i.val + j.val → B.x6 (ix1 n) = P.b3 i j
  es : ∀ (i : Fin 4) (e : Fin 2) (n : Fin 8), n.val = 2 * i.val + e.val → B.x7 (ix1 n) = Ideal.exp (P.ls i e)
  sh : ∀ (i : Fin 4) (e : Fin 2) (n : Fin 8), n.val = 2 * i.val + e.val → B.x8 (ix1 n) = P.sh i e
  total : B.x9 (ix1 0) = 0 + ∑ i : Fin 4, ∑ e : Fin 2, P.ls i e

/-! ## The loads -/

/-- One cell of a table fits in it; -/
theorem fits1 {n k : Nat} (h : k + 1 ≤ n) :
    ∀ a, (![k] : Fin 1 → Nat) a + S1.size a ≤ (⟨1, ![n]⟩ : Shape).size a := fun a => by
  match a with
  | ⟨0, _⟩ => exact h
/-- so does one row of a stack of rows, -/
theorem fits2 {g n : Nat} (i : Fin g) :
    ∀ a, (![i.val, 0] : Fin 2 → Nat) a + (⟨2, ![1, n]⟩ : Shape).size a ≤ (⟨2, ![g, n]⟩ : Shape).size a := fun a => by
  match a with
  | ⟨0, _⟩ => exact i.isLt
  | ⟨1, _⟩ => exact (Nat.zero_add n).le
/-- one matrix of a stack of matrices, -/
theorem fits3 {g a b : Nat} (i : Fin g) :
    ∀ ax, (![i.val, 0, 0] : Fin 3 → Nat) ax + (⟨3, ![1, a, b]⟩ : Shape).size ax
      ≤ (⟨3, ![g, a, b]⟩ : Shape).size ax := fun ax => by
  match ax with
  | ⟨0, _⟩ => exact i.isLt
  | ⟨1, _⟩ => exact (Nat.zero_add a).le
  | ⟨2, _⟩ => exact (Nat.zero_add b).le
/-- one row of one matrix of a stack, -/
theorem fitsRow {g a b : Nat} (i : Fin g) (d : Fin a) :
    ∀ ax, (![i.val, d.val, 0] : Fin 3 → Nat) ax + (⟨3, ![1, 1, b]⟩ : Shape).size ax
      ≤ (⟨3, ![g, a, b]⟩ : Shape).size ax := fun ax => by
  match ax with
  | ⟨0, _⟩ => exact i.isLt
  | ⟨1, _⟩ => exact d.isLt
  | ⟨2, _⟩ => exact (Nat.zero_add b).le
/-- and one column of a matrix. -/
theorem fitsCol {m n : Nat} (d : Fin n) :
    ∀ a, (![0, d.val] : Fin 2 → Nat) a + (⟨2, ![m, 1]⟩ : Shape).size a ≤ (⟨2, ![m, n]⟩ : Shape).size a := fun a => by
  match a with
  | ⟨0, _⟩ => exact (Nat.zero_add m).le
  | ⟨1, _⟩ => exact d.isLt

/-- Column `d` of the rows. -/
def col (B : Ins) (d : Fin 2) : Vec Ideal S2048x1 .f32 := View.ld B.x0 (Rect.unit ![0, d.val] S2048x1.size (fitsCol d))
/-- Lane `d` of layer `i`'s first weights. -/
def ldW1 (B : Ins) (i : Fin 4) (d : Fin 2) : Vec Ideal S1x1x512 .bf16 :=
  View.ld B.x1 (Rect.unit ![i.val, d.val, 0] S1x1x512.size (fitsRow i d))
/-- Layer `i`'s first bias … -/
def ldB1 (B : Ins) (i : Fin 4) : Vec Ideal S1x512 .bf16 := View.ld B.x2 (Rect.unit ![i.val, 0] S1x512.size (fits2 i))
/-- … second weights … -/
def ldW2 (B : Ins) (i : Fin 4) : Vec Ideal S1x512x512 .bf16 :=
  View.ld B.x3 (Rect.unit ![i.val, 0, 0] S1x512x512.size (fits3 i))
/-- … second bias … -/
def ldB2 (B : Ins) (i : Fin 4) : Vec Ideal S1x512 .bf16 := View.ld B.x4 (Rect.unit ![i.val, 0] S1x512.size (fits2 i))
/-- … and third weights. -/
def ldW3 (B : Ins) (i : Fin 4) : Vec Ideal S1x512x4 .bf16 :=
  View.ld B.x5 (Rect.unit ![i.val, 0, 0] S1x512x4.size (fits3 i))
/-- Cell `k` of a table. -/
def cell {n : Nat} (x : Vec Ideal ⟨1, ![n]⟩ .f32) (k : Nat) (h : k + 1 ≤ n) : Ideal .f32 :=
  View.ld x (Rect.unit ![k] S1.size (fits1 h)) (Shape.Idx.first (s := S1) Nat.one_pos)

/-- A column at a row is the rows' entry. -/
theorem col_apply (B : Ins) (d : Fin 2) (r : Fin 2048) : col B d (ix2 r 0) = B.x0 (ix2 r d) :=
  View.ld_unit_apply_of B.x0 _ _ _ _ _ fun a => by
    match a with
    | ⟨0, _⟩ => exact (Nat.zero_add r.val).symm
    | ⟨1, _⟩ => rfl
/-- The first weights' lane at a unit. -/
theorem ldW1_apply (B : Ins) (i : Fin 4) (d : Fin 2) (k : Fin 512) : ldW1 B i d (ix3 0 0 k) = B.x1 (ix3 i d k) :=
  View.ld_unit_apply_of B.x1 _ _ _ _ _ fun a => by
    match a with
    | ⟨0, _⟩ => rfl
    | ⟨1, _⟩ => rfl
    | ⟨2, _⟩ => exact (Nat.zero_add k.val).symm
/-- Row `i` of a stack of rows. -/
theorem ld_row {g n : Nat} (x : Vec Ideal ⟨2, ![g, n]⟩ .bf16) (i : Fin g) (k : Fin n) :
    View.ld x (Rect.unit ![i.val, 0] (⟨2, ![1, n]⟩ : Shape).size (fits2 i)) (ix2 (n0 := 1) 0 k) = x (ix2 i k) :=
  View.ld_unit_apply_of x _ _ _ _ _ fun a => by
    match a with
    | ⟨0, _⟩ => rfl
    | ⟨1, _⟩ => exact (Nat.zero_add k.val).symm
/-- Matrix `i` of a stack of matrices. -/
theorem ld_matrix {g a b : Nat} (x : Vec Ideal ⟨3, ![g, a, b]⟩ .bf16) (i : Fin g) (p : Fin a) (q : Fin b) :
    View.ld x (Rect.unit ![i.val, 0, 0] (⟨3, ![1, a, b]⟩ : Shape).size (fits3 i)) (ix3 (n0 := 1) 0 p q) = x (ix3 i p q) :=
  View.ld_unit_apply_of x _ _ _ _ _ fun ax => by
    match ax with
    | ⟨0, _⟩ => rfl
    | ⟨1, _⟩ => exact (Nat.zero_add p.val).symm
    | ⟨2, _⟩ => exact (Nat.zero_add q.val).symm
/-- A cell is the table's entry. -/
theorem cell_apply {n : Nat} (x : Vec Ideal ⟨1, ![n]⟩ .f32) (k : Nat) (h : k + 1 ≤ n) : cell x k h = x (ix1 ⟨k, h⟩) :=
  View.ld_unit_apply_of x _ _ _ _ _ fun a => by
    match a with
    | ⟨0, _⟩ => rfl

/-! ## One conditioner network -/

/-- A row cast to its own shape is the row. -/
theorem zeroCast {n : Nat} (x : Vec Ideal ⟨2, ![1, n]⟩ .bf16) (h : (⟨2, ![1, n]⟩ : Shape).ShapeCasts ⟨2, ![1, n]⟩) :
    shapeCast ⟨2, ![1, n]⟩ x h = x := shapeCast_self x h

/-- The product with the zero accumulator, at a row and a column. -/
theorem dot512_apply (A : FVec Ideal S2048x512 .bf16) (W : FVec Ideal S512x512 .bf16) (r : Fin 2048) (k : Fin 512) :
    matmul dot_S2048x512_S512x512_S2048x512_1_0_0_1_n_n none A W (constant S2048x512 .f32 0x00000000#32) (ix2 r k)
      = ∑ l : Fin 512, A (ix2 r l) * W (ix2 l k) := by
  refine (Ideal.matmul_plain_apply (M := 2048) (K := 512) (N := 512) none A W _ r k).trans ?_
  rw [constant_apply, Ideal.ofBits_zero_f32, zero_add]
/-- The same for the last product, into four columns. -/
theorem dot4_apply (A : FVec Ideal S2048x512 .bf16) (W : FVec Ideal S512x4 .bf16) (r : Fin 2048) (j : Fin 4) :
    matmul dot_S2048x512_S512x4_S2048x4_1_0_0_1_n_n none A W (constant S2048x4 .f32 0x00000000#32) (ix2 r j)
      = ∑ k : Fin 512, A (ix2 r k) * W (ix2 k j) := by
  refine (Ideal.matmul_plain_apply (M := 2048) (K := 512) (N := 4) none A W _ r j).trans ?_
  rw [constant_apply, Ideal.ofBits_zero_f32, zero_add]

/-- The printed network at a row is the flow's network on the column's entry. -/
theorem pay6_apply (v0 : Vec Ideal S2048x1 .f32) (v3 : Vec Ideal S1x1x512 .bf16) (v5 : Vec Ideal S1x512 .bf16)
    (v15 : Vec Ideal S1x512x512 .bf16) (v19 : Vec Ideal S1x512 .bf16) (v25 : Vec Ideal S1x512x4 .bf16)
    (r : Fin 2048) (j : Fin 4) :
    k0_pay6 v0 v3 v5 v15 v19 v25 (ix2 r j)
      = Flow.net (v0 (ix2 r 0)) (fun k => v3 (ix3 0 0 k)) (fun k => v5 (ix2 0 k)) (fun l k => v15 (ix3 0 l k))
          (fun k => v19 (ix2 0 k)) (fun k j => v25 (ix3 0 k j)) j := by
  unfold k0_pay6 Flow.net Flow.tailNet Flow.firstLayer
  dsimp only
  rw [dot4_apply]
  refine Finset.sum_congr rfl fun k _ => ?_
  rw [maximumf_apply, addf_apply, truncf_apply, dot512_apply, Flow.oneRow_over_rows, Flow.thin_matrix, zeroCast]
  refine congrArg₂ (· * ·) (congrArg₂ max (congrArg₂ (· + ·) (Finset.sum_congr rfl fun l _ => ?_)
    (congrFun (zeroCast _ _) _))
    Ideal.ofBits_zero_bf16) rfl
  rw [maximumf_apply, addf_apply, mulf_apply, Flow.column_over_columns, Flow.oneRow_over_rows, Flow.oneRow_over_rows,
    Flow.thin_matrix, Flow.thin_matrix]
  exact congrArg₂ (· * ·) (congrArg₂ max rfl Ideal.ofBits_zero_bf16) rfl

/-- Layer `i`'s network on the column `X`, lane `d`. -/
def netOf (B : Ins) (i : Fin 4) (d : Fin 2) (X : FVec Ideal S2048x1 .f32) : FVec Ideal S2048x4 .f32 :=
  k0_pay6 X (ldW1 B i d) (ldB1 B i) (ldW2 B i) (ldB2 B i) (ldW3 B i)

/-- The layer's network at a row, in the flow's parameters. -/
theorem netOf_apply {P : Flow.Params} {B : Ins} (H : Holds P B) (i : Fin 4) (d : Fin 2) (X : FVec Ideal S2048x1 .f32)
    (r : Fin 2048) (j : Fin 4) :
    netOf B i d X (ix2 r j) = Flow.net (X (ix2 r 0)) (P.w1 i d) (P.b1 i) (P.w2 i) (P.b2 i) (P.w3 i) j := by
  unfold netOf
  rw [pay6_apply,
    show (fun k => ldW1 B i d (ix3 0 0 k)) = P.w1 i d from funext fun k => (ldW1_apply B i d k).trans (H.w1 i d k),
    show (fun k => ldB1 B i (ix2 0 k)) = P.b1 i from funext fun k => (ld_row B.x2 i k).trans (H.b1 i k),
    show (fun l k => ldW2 B i (ix3 0 l k)) = P.w2 i from
      funext fun l => funext fun k => (ld_matrix B.x3 i l k).trans (H.w2 i l k),
    show (fun k => ldB2 B i (ix2 0 k)) = P.b2 i from funext fun k => (ld_row B.x4 i k).trans (H.b2 i k),
    show (fun k j => ldW3 B i (ix3 0 k j)) = P.w3 i from
      funext fun k => funext fun j => (ld_matrix B.x5 i k j).trans (H.w3 i k j)]

/-! ## One coupling layer -/

/-- A column cut out of four fits in them. -/
theorem oneColumn (o : Nat) (h : o + 1 ≤ 4) : S2048x4.Slices ![0, o] S2048x1 := ⟨rfl, fun a => by
  match a with
  | ⟨0, _⟩ => exact (Nat.zero_add 2048).le
  | ⟨1, _⟩ => exact h⟩

/-- Output `o` of layer `i`'s network with its bias. -/
def biased (B : Ins) (i : Fin 4) (d : Fin 2) (X : FVec Ideal S2048x1 .f32) (o : Fin 4) : FVec Ideal S2048x1 .f32 :=
  addf (extractStridedSlice S2048x1 ![0, o.val] (netOf B i d X) (oneColumn o.val o.isLt))
    (broadcast S2048x1 (cell B.x6 (4 * i.val + o.val) (by omega)))

/-- The log-scale of lane `e`. -/
def scale (B : Ins) (i : Fin 4) (d e : Fin 2) (X : FVec Ideal S2048x1 .f32) : FVec Ideal S2048x1 .f32 :=
  tanh (biased B i d X ⟨e.val, by omega⟩)

/-- A column times its fixed scale plus its shift. -/
def fixedAffine (B : Ins) (i : Fin 4) (e : Fin 2) (X : FVec Ideal S2048x1 .f32) : FVec Ideal S2048x1 .f32 :=
  addf (mulf X (broadcast S2048x1 (cell B.x7 (2 * i.val + e.val) (by omega))))
    (broadcast S2048x1 (cell B.x8 (2 * i.val + e.val) (by omega)))

/-- The other lane after layer `i`: `X` is the column the network reads, `Y` the column it changes. -/
def moved (B : Ins) (i : Fin 4) (d e : Fin 2) (X Y : FVec Ideal S2048x1 .f32) : FVec Ideal S2048x1 .f32 :=
  fixedAffine B i e (addf (mulf Y (exp (scale B i d e X))) (biased B i d X ⟨2 + e.val, by omega⟩))

section AtRow

variable {P : Flow.Params} {B : Ins} (H : Holds P B) (i : Fin 4) (d e : Fin 2) (X Y : FVec Ideal S2048x1 .f32)
  (r : Fin 2048) (y : Fin 2 → EReal) (hX : X (ix2 r 0) = y d) (hY : Y (ix2 r 0) = y e)

include H hX in
/-- The biased output at a row is the flow's conditioner, -/
theorem biased_apply (o : Fin 4) : biased B i d X o (ix2 r 0) = Flow.cond P i d y o := by
  unfold biased Flow.cond
  rw [addf_apply, Flow.columns o.val _ _ r 0 o rfl, netOf_apply H, hX, broadcast_apply, cell_apply, H.b3 i o _ rfl]

include H hX in
/-- the log-scale is the flow's, -/
theorem scale_apply : scale B i d e X (ix2 r 0) = Flow.logScale P i d y e := by
  unfold scale Flow.logScale
  exact congrArg Ideal.tanh (biased_apply H i d X r y hX _)

include H in
/-- and the fixed scale and shift are the flow's. -/
theorem fixedAffine_apply (Z : FVec Ideal S2048x1 .f32) :
    fixedAffine B i e Z (ix2 r 0) = Z (ix2 r 0) * Ideal.exp (P.ls i e) + P.sh i e := by
  unfold fixedAffine
  rw [addf_apply, mulf_apply, broadcast_apply, broadcast_apply, cell_apply, cell_apply, H.es i e _ rfl, H.sh i e _ rfl]

include H hX in
/-- The kept lane after the layer is the flow's step at that lane. -/
theorem kept_apply : fixedAffine B i d X (ix2 r 0) = Flow.step P i d y d := by
  rw [fixedAffine_apply H, hX, Flow.step, if_pos rfl]

include H hX hY in
/-- The changed lane after the layer is the flow's step at that lane. -/
theorem moved_apply (hne : e ≠ d) : moved B i d e X Y (ix2 r 0) = Flow.step P i d y e := by
  unfold moved
  rw [fixedAffine_apply H, addf_apply, mulf_apply, biased_apply H i d X r y hX, Flow.step, if_neg hne]
  show (Y (ix2 r 0) * Ideal.exp (scale B i d e X (ix2 r 0)) + _) * _ + _ = _
  rw [scale_apply H i d e X r y hX, hY]
  rfl

end AtRow

/-! ## The four layers -/

/-- The two columns after the first layer, which reads column 0 … -/
def a0 (B : Ins) : FVec Ideal S2048x1 .f32 := fixedAffine B 0 0 (col B 0)
/-- (its other column) -/
def a1 (B : Ins) : FVec Ideal S2048x1 .f32 := moved B 0 0 1 (col B 0) (col B 1)
/-- … after the second, which reads column 1 … -/
def b0 (B : Ins) : FVec Ideal S2048x1 .f32 := moved B 1 1 0 (a1 B) (a0 B)
/-- (its other column) -/
def b1 (B : Ins) : FVec Ideal S2048x1 .f32 := fixedAffine B 1 1 (a1 B)
/-- … after the third, which reads column 0 … -/
def c0 (B : Ins) : FVec Ideal S2048x1 .f32 := fixedAffine B 2 0 (b0 B)
/-- (its other column) -/
def c1 (B : Ins) : FVec Ideal S2048x1 .f32 := moved B 2 0 1 (b0 B) (b1 B)
/-- … and after the fourth, which reads column 1. -/
def d0 (B : Ins) : FVec Ideal S2048x1 .f32 := moved B 3 1 0 (c1 B) (c0 B)
/-- (its other column) -/
def d1 (B : Ins) : FVec Ideal S2048x1 .f32 := fixedAffine B 3 1 (c1 B)

/-- The log-scales of the four layers, summed from zero in the order of the layers. -/
def gains (B : Ins) : FVec Ideal S2048x1 .f32 :=
  addf (addf (addf (addf (broadcast S2048x1 (Scalar.ofBits .f32 0x00000000#32)) (scale B 0 0 1 (col B 0)))
    (scale B 1 1 0 (a1 B))) (scale B 2 0 1 (b0 B))) (scale B 3 1 0 (c1 B))

/-- The first result's two columns and the second result's one column, as the block stores them. -/
def out0 (B : Ins) : FVec Ideal S2048x1 .f32 := k0_pay2 (d0 B)
/-- (the first result's column 1) -/
def out1 (B : Ins) : FVec Ideal S2048x1 .f32 := logistic (d1 B)
/-- Minus the logarithm of the sigmoid's derivative, as the block computes it. -/
def penalties (z : FVec Ideal S2048x1 .f32) : FVec Ideal S2048x1 .f32 :=
  addf (mulf (broadcast S2048x1 (Scalar.ofBits .f32 0x40000000#32))
    (log1p (exp (subf (broadcast S2048x1 (Scalar.ofBits .f32 0x00000000#32)) (absf z))))) (absf z)
/-- The second result's column: the log-determinant. -/
def outLd (B : Ins) : FVec Ideal S2048x1 .f32 :=
  subf (subf (addf (gains B) (broadcast S2048x1 (cell B.x9 0 (by omega)))) (penalties (d0 B))) (penalties (d1 B))

section Rows

variable {P : Flow.Params} {B : Ins} (H : Holds P B) (r : Fin 2048)

include H

/-- After the first layer the columns are the flow's `row1`, lane 0 -/
theorem a0_apply : a0 B (ix2 r 0) = Flow.row1 P (Flow.rowOf B.x0 r) 0 := kept_apply H 0 0 _ r _ (col_apply B 0 r)
/-- and lane 1; -/
theorem a1_apply : a1 B (ix2 r 0) = Flow.row1 P (Flow.rowOf B.x0 r) 1 :=
  moved_apply H 0 0 1 _ _ r _ (col_apply B 0 r) (col_apply B 1 r) (by decide)
/-- after the second its `row2`, lane 0 -/
theorem b0_apply : b0 B (ix2 r 0) = Flow.row2 P (Flow.rowOf B.x0 r) 0 :=
  moved_apply H 1 1 0 _ _ r _ (a1_apply H r) (a0_apply H r) (by decide)
/-- and lane 1; -/
theorem b1_apply : b1 B (ix2 r 0) = Flow.row2 P (Flow.rowOf B.x0 r) 1 := kept_apply H 1 1 _ r _ (a1_apply H r)
/-- after the third its `row3`, lane 0 -/
theorem c0_apply : c0 B (ix2 r 0) = Flow.row3 P (Flow.rowOf B.x0 r) 0 := kept_apply H 2 0 _ r _ (b0_apply H r)
/-- and lane 1; -/
theorem c1_apply : c1 B (ix2 r 0) = Flow.row3 P (Flow.rowOf B.x0 r) 1 :=
  moved_apply H 2 0 1 _ _ r _ (b0_apply H r) (b1_apply H r) (by decide)
/-- after the fourth its `row4`, lane 0 -/
theorem d0_apply : d0 B (ix2 r 0) = Flow.row4 P (Flow.rowOf B.x0 r) 0 :=
  moved_apply H 3 1 0 _ _ r _ (c1_apply H r) (c0_apply H r) (by decide)
/-- and lane 1. -/
theorem d1_apply : d1 B (ix2 r 0) = Flow.row4 P (Flow.rowOf B.x0 r) 1 := kept_apply H 3 1 _ r _ (c1_apply H r)

/-- The first column the block stores is the flow's `out` at lane 0 … -/
theorem out0_apply : out0 B (ix2 r 0) = Flow.out P (Flow.rowOf B.x0 r) 0 := congrArg Ideal.logistic (d0_apply H r)
/-- … and the second its `out` at lane 1. -/
theorem out1_apply : out1 B (ix2 r 0) = Flow.out P (Flow.rowOf B.x0 r) 1 := congrArg Ideal.logistic (d1_apply H r)

omit H in
/-- The word of 2.0 is the number 2. -/
theorem two_f32 : Ideal.ofBits .f32 0x40000000#32 = 2 := by
  rw [show (2 : EReal) = ((2 : ℝ) : EReal) by norm_cast]
  simp [Ideal.ofBits, Ideal.ieee, -EReal.coe_mul]
  norm_num

omit H in
/-- The penalty at an entry is the flow's `penalty` of it. -/
theorem penalties_apply (z : FVec Ideal S2048x1 .f32) (j : S2048x1.Idx) : penalties z j = Flow.penalty (z j) := by
  show Ideal.ofBits .f32 0x40000000#32 * Ideal.log1p (Ideal.exp (Ideal.ofBits .f32 0x00000000#32 - max (z j) (-(z j))))
    + max (z j) (-(z j)) = _
  rw [two_f32, Ideal.ofBits_zero_f32]
  rfl

/-- The third column the block stores is the flow's `logDet`. -/
theorem outLd_apply : outLd B (ix2 r 0) = Flow.logDet P (Flow.rowOf B.x0 r) := by
  unfold outLd gains Flow.logDet
  rw [subf_apply, subf_apply, penalties_apply, penalties_apply, d0_apply H, d1_apply H, addf_apply, addf_apply,
    addf_apply, addf_apply, addf_apply, scale_apply H 0 0 1 _ r (Flow.rowOf B.x0 r) (col_apply B 0 r),
    scale_apply H 1 1 0 _ r _ (a1_apply H r), scale_apply H 2 0 1 _ r _ (b0_apply H r),
    scale_apply H 3 1 0 _ r _ (c1_apply H r), broadcast_apply, broadcast_apply, cell_apply, ← H.total]
  rw [show (Scalar.ofBits .f32 0x00000000#32 : Ideal .f32) = 0 from Ideal.ofBits_zero_f32]
  rfl

end Rows

end Cert.KernelIdeal.Block

end
-- ==== Proof.Stored.lean ====
/-
  WHAT A GRID POINT STORES. A run of the kernel's body leaves in its two result blocks the columns of the block
  module: the first block gets its two columns one after the other, the second its one column. So each block at a row
  is the flow's `out`, and its `logDet`, on that row.
-/
module

public import proofs.«01_k».proof.Proof.Block
public import proofs.«01_k».proof.Proof.Gen.KernelIdeal.Frame
public import Idealize.ShloMosaic.Lib.Pipeline.Value

@[expose] public section

set_option maxRecDepth 4000

noncomputable section

namespace Cert.KernelIdeal.Block

open Cert.KernelIdeal Cert.KernelIdeal.Gen Idealize.ShloMosaic Idealize.ShloMosaic.TcCoe Idealize.ShloMosaic.ValueIdx

variable (c : Dev nD) (i : grid0.Coords)
  (arg1 : Memref sig .tc .vmem S2048x2 .f32) (harg1 : arg1.IsWhole)
  (arg2 : Memref sig .tc .vmem S4x2x512 .bf16) (harg2 : arg2.IsWhole)
  (arg3 : Memref sig .tc .vmem S4x512 .bf16) (harg3 : arg3.IsWhole)
  (arg4 : Memref sig .tc .vmem S4x512x512 .bf16) (harg4 : arg4.IsWhole)
  (arg5 : Memref sig .tc .vmem S4x512 .bf16) (harg5 : arg5.IsWhole)
  (arg6 : Memref sig .tc .vmem S4x512x4 .bf16) (harg6 : arg6.IsWhole)
  (arg7 : Memref sig .tc .smem S16 .f32) (harg7 : arg7.IsWhole)
  (arg8 : Memref sig .tc .smem S8 .f32) (harg8 : arg8.IsWhole)
  (arg9 : Memref sig .tc .smem S8 .f32) (harg9 : arg9.IsWhole)
  (arg10 : Memref sig .tc .smem S1 .f32) (harg10 : arg10.IsWhole)
  (arg11 : Memref sig .tc .vmem S2048x2 .f32) (harg11 : arg11.IsWhole)
  (arg12 : Memref sig .tc .vmem S2048x1 .f32) (harg12 : arg12.IsWhole)
  (B : Ins)

/-- The stores a run makes, last one first: into the first result's block its column 1, then (earlier) its column 0; into
    the second result's block its one column. -/
theorem stores :
    (kernelRun0_A (F := Ideal) c i arg1 harg1 arg2 harg2 arg3 harg3 arg4 harg4 arg5 harg5 arg6 harg6 arg7 harg7 arg8
      harg8 arg9 harg9 arg10 harg10 arg11 harg11 arg12 harg12
      B.x0 B.x1 B.x2 B.x3 B.x4 B.x5 B.x6 B.x7 B.x8 B.x9).1
      = [⟨Rect.unit ![0, 1] ![2048, 1] inb_S2048x2_S2048x1_0_1, out1 B⟩,
         ⟨Rect.unit ![0, 0] ![2048, 1] inb_S2048x2_S2048x1_0_0, out0 B⟩]
    ∧
    (kernelRun0_A (F := Ideal) c i arg1 harg1 arg2 harg2 arg3 harg3 arg4 harg4 arg5 harg5 arg6 harg6 arg7 harg7 arg8
      harg8 arg9 harg9 arg10 harg10 arg11 harg11 arg12 harg12
      B.x0 B.x1 B.x2 B.x3 B.x4 B.x5 B.x6 B.x7 B.x8 B.x9).2.1
      = [⟨Rect.unit ![0, 0] ![2048, 1] inb_S2048x1_S2048x1_0_0, outLd B⟩] := by
  unfold kernelRun0_A
  dsimp only
  constructor
  all_goals
    simp only [kernelRun0_A.sl.r, kernelRun0_A.sl.r_1, kernelRun0_A.sl.r_2, kernelRun0_A.sl.r_3, kernelRun0_A.sl.r_4,
      kernelRun0_A.sl.r_5, kernelRun0_A.sl.r_6, kernelRun0_A.sl.r_7, kernelRun0_A.sl.r_8, kernelRun0_A.sl.r_9,
      kernelRun0_A.sl.r_10, kernelRun0_A.sl.r_11, kernelRun0_A.sl.r_12, kernelRun0_A.sl.r_13, kernelRun0_A.sl.r_14,
      kernelRun0_A.sl.r_15, kernelRun0_A.sl.r_16, kernelRun0_A.sl.r_17, kernelRun0_A.sl.r_18, kernelRun0_A.sl.r_19,
      kernelRun0_A.sl.r_20, kernelRun0_A.sl.r_21, kernelRun0_A.sl.r_22, kernelRun0_A.sl.r_23, kernelRun0_A.sl.r_24,
      kernelRun0_A.sl.r_25, kernelRun0_A.sl.r_26, kernelRun0_A.sl.r_27, kernelRun0_A.sl.r_28, kernelRun0_A.sl.r_29,
      kernelRun0_A.sl.r_30, kernelRun0_A.sl.r_31, kernelRun0_A.sl.r_32, kernelRun0_A.sl.r_33, kernelRun0_A.sl.r_34,
      kernelRun0_A.sl.r_35, kernelRun0_A.sl.r_36, kernelRun0_A.sl.r_37, kernelRun0_A.sl.r_38, kernelRun0_A.sl.r_39,
      kernelRun0_A.sl.r_40, kernelRun0_A.sl.r_41, kernelRun0_A.sl.r_42, kernelRun0_A.sl.r_43, kernelRun0_A.sl.r_44,
      kernelRun0_A.sl.r_45, kernelRun0_A.sl.r_46]
    simp only [View.readAt_eq_ld, Memref.IsWhole.read_unread]
    rfl

/-- A column's index is its row. -/
theorem row_ix (x : S2048x1.Idx) : x = ix2 (x 0) 0 :=
  (eq_ix2 x).trans (congrArg (ix2 (x 0)) (Subsingleton.elim (α := Fin 1) _ _))

/-- The stored index of a column's entry: column `e` of the block, the entry's row. -/
theorem col_emb (e : Fin 2) (inb) (x : S2048x1.Idx) :
    (Rect.unit (s := S2048x2) ![0, e.val] ![2048, 1] inb).emb x = ix2 (x 0) e := by
  refine funext fun a => Fin.ext ?_
  match a with
  | ⟨0, _⟩ =>
    show 0 + 1 * (x 0).val = (x 0).val
    omega
  | ⟨1, _⟩ =>
    have h : (x 1).val = 0 := Nat.lt_one_iff.mp (x 1).isLt
    show e.val + 1 * (x 1).val = e.val
    omega

variable {P : Flow.Params} {B} (H : Holds P B)

include H

/-- The first result's block at a row and a lane is the flow's `out` of the block's row. -/
theorem out10_apply (r : Fin 2048) (e : Fin 2) :
    out0_A_10 (F := Ideal)
      c i arg1 harg1 arg2 harg2 arg3 harg3 arg4 harg4 arg5 harg5 arg6 harg6 arg7 harg7 arg8 harg8 arg9 harg9
      arg10 harg10 arg11 harg11 arg12 harg12 B.x0 B.x1 B.x2 B.x3 B.x4 B.x5 B.x6 B.x7 B.x8 B.x9 (ix2 r e)
      = Flow.out P (Flow.rowOf B.x0 r) e := by
  unfold out0_A_10
  rw [View.read_writes_junk_eq_canon]
  refine View.canon_apply_of_pieces (fun y : S2048x2.Idx => Flow.out P (Flow.rowOf B.x0 (y 0)) (y 1)) _ ?_ _
    (cover0_A_10 c i arg1 harg1 arg2 harg2 arg3 harg3 arg4 harg4 arg5 harg5 arg6 harg6 arg7 harg7 arg8 harg8 arg9
      harg9 arg10 harg10 arg11 harg11 arg12 harg12
      B.x0 B.x1 B.x2 B.x3 B.x4 B.x5 B.x6 B.x7 B.x8 B.x9 _)
  rw [(stores c i arg1 harg1 arg2 harg2 arg3 harg3 arg4 harg4 arg5 harg5 arg6 harg6 arg7 harg7 arg8 harg8 arg9 harg9
    arg10 harg10 arg11 harg11 arg12 harg12 B).1]
  intro p hp x
  rcases List.mem_cons.mp hp with rfl | hp
  · show out1 B x = Flow.out P (Flow.rowOf B.x0
        ((Rect.unit (s := S2048x2) ![0, 1] ![2048, 1] inb_S2048x2_S2048x1_0_1).emb x 0))
      ((Rect.unit (s := S2048x2) ![0, 1] ![2048, 1] inb_S2048x2_S2048x1_0_1).emb x 1)
    refine ((congrArg (out1 B) (row_ix x)).trans (out1_apply H (x 0))).trans ?_
    rw [show (Rect.unit (s := S2048x2) ![0, 1] ![2048, 1] inb_S2048x2_S2048x1_0_1).emb x = ix2 (x 0) 1 from
      col_emb 1 _ x]
  · obtain rfl := List.mem_singleton.mp hp
    show out0 B x = Flow.out P (Flow.rowOf B.x0
        ((Rect.unit (s := S2048x2) ![0, 0] ![2048, 1] inb_S2048x2_S2048x1_0_0).emb x 0))
      ((Rect.unit (s := S2048x2) ![0, 0] ![2048, 1] inb_S2048x2_S2048x1_0_0).emb x 1)
    refine ((congrArg (out0 B) (row_ix x)).trans (out0_apply H (x 0))).trans ?_
    rw [show (Rect.unit (s := S2048x2) ![0, 0] ![2048, 1] inb_S2048x2_S2048x1_0_0).emb x = ix2 (x 0) 0 from
      col_emb 0 _ x]

/-- The second result's block at a row is the flow's `logDet` of the block's row. -/
theorem out11_apply (r : Fin 2048) :
    out0_A_11 (F := Ideal)
      c i arg1 harg1 arg2 harg2 arg3 harg3 arg4 harg4 arg5 harg5 arg6 harg6 arg7 harg7 arg8 harg8 arg9 harg9
      arg10 harg10 arg11 harg11 arg12 harg12 B.x0 B.x1 B.x2 B.x3 B.x4 B.x5 B.x6 B.x7 B.x8 B.x9 (ix2 r 0)
      = Flow.logDet P (Flow.rowOf B.x0 r) := by
  unfold out0_A_11
  rw [View.read_writes_junk_eq_canon, (stores c i arg1 harg1 arg2 harg2 arg3 harg3 arg4 harg4 arg5 harg5 arg6 harg6
    arg7 harg7 arg8 harg8 arg9 harg9 arg10 harg10 arg11 harg11 arg12 harg12 B).2, View.canon_unit_zero (by decide)]
  exact outLd_apply H r

end Cert.KernelIdeal.Block

end
-- ==== Proof.Operands.lean ====
/-
  WHAT THE KERNEL'S BLOCKS HOLD. Before the grid starts the program rounds the five large parameter arrays (at the
  extended reals: leaves them), lays the small ones out as tables of cells, takes the exponentials of the fixed
  log-scales and their sum. Every grid point reads all of these whole, and its own 2048 rows of the input. So the
  blocks of a point hold the flow's parameters.
-/
module

public import proofs.«01_k».proof.Proof.Block
public import proofs.«01_k».proof.Proof.Gen.KernelIdeal.Frame
public import Idealize.ShloMosaic.Lib.Pipeline.Value
public import Idealize.ShloMosaic.Lib.StableHlo.Run

@[expose] public section

set_option maxRecDepth 4000

noncomputable section

namespace Cert.KernelIdeal.Block

open Cert.KernelIdeal Cert.KernelIdeal.Gen Idealize.ShloMosaic Idealize.ShloMosaic.TcCoe Idealize.ShloMosaic.ValueIdx
open Idealize.ShloMosaic.StableHlo
open scoped BigOperators

variable (m : (ℓ : Loc nD τ sig) → Buf (Elt Ideal) ℓ) (c : Dev nD)

/-! ## The arguments, and the flow's parameters in them -/

/-- The input rows. -/
abbrev X0 : FVec Ideal S524288x2 .f32 := m ((c.tc : Thread nD τ).loc main_arg0)
/-- The first weights, -/
abbrev W1 : FVec Ideal S4x2x512 .f32 := m ((c.tc : Thread nD τ).loc main_arg1)
/-- the first bias, -/
abbrev B1 : FVec Ideal S4x512 .f32 := m ((c.tc : Thread nD τ).loc main_arg2)
/-- the second weights, -/
abbrev W2 : FVec Ideal S4x512x512 .f32 := m ((c.tc : Thread nD τ).loc main_arg3)
/-- the second bias, -/
abbrev B2 : FVec Ideal S4x512 .f32 := m ((c.tc : Thread nD τ).loc main_arg4)
/-- the third weights, -/
abbrev W3 : FVec Ideal S4x512x4 .f32 := m ((c.tc : Thread nD τ).loc main_arg5)
/-- the third bias, -/
abbrev B3 : FVec Ideal S4x4 .f32 := m ((c.tc : Thread nD τ).loc main_arg6)
/-- the fixed log-scales -/
abbrev LS : FVec Ideal S4x2 .f32 := m ((c.tc : Thread nD τ).loc main_arg7)
/-- and the fixed shifts. -/
abbrev SH : FVec Ideal S4x2 .f32 := m ((c.tc : Thread nD τ).loc main_arg8)

/-- The parameters the launch memory holds on device `c`. -/
abbrev P : Flow.Params :=
  Flow.params (W1 m c) (B1 m c) (W2 m c) (B2 m c) (W3 m c) (B3 m c) (LS m c) (SH m c)

/-! ## What the lines before the grid compute -/

/-- The arrays the grid reads, as the lines before it leave them. -/
theorem lines :
    V m c main_v0 = truncf (s := S4x2x512) .bf16 (W1 m c) bitsLt_bf16_f32
    ∧ V m c main_v1 = truncf (s := S4x512) .bf16 (B1 m c) bitsLt_bf16_f32
    ∧ V m c main_v2 = truncf (s := S4x512x512) .bf16 (W2 m c) bitsLt_bf16_f32
    ∧ V m c main_v3 = truncf (s := S4x512) .bf16 (B2 m c) bitsLt_bf16_f32
    ∧ V m c main_v4 = truncf (s := S4x512x4) .bf16 (W3 m c) bitsLt_bf16_f32
    ∧ V m c main_v5 = shapeCast S16 (B3 m c) shapeCasts_S4x4_S16
    ∧ V m c main_v7 = shapeCast S8 (Host.exp (LS m c)) shapeCasts_S4x2_S8
    ∧ V m c main_v8 = shapeCast S8 (SH m c) shapeCasts_S4x2_S8
    ∧ V m c main_v10 = shapeCast S1
        (Host.reduceAdd (LS m c) (constant S_ .f32 0x00000000#32) reducesTo_S4x2_S_d0_1 h_S_) shapeCasts_S_S1 := by
  refine ⟨?_, ?_, ?_, ?_, ?_, ?_, ?_, ?_, ?_⟩
  all_goals
    simp only [V, V0, hostOps0, List.flatten_cons, List.flatten_nil, List.append_nil]
    after_results_simp
  all_goals rfl

/-! ## The tables at a cell -/

/-- A matrix laid out as a table of cells, row by row, at a cell. -/
theorem table_apply {a b n : Nat} {α : Type} (x : (⟨2, ![a, b]⟩ : Shape).Idx → α)
    (h : (⟨2, ![a, b]⟩ : Shape).ShapeCasts ⟨1, ![n]⟩) (p : Fin a) (q : Fin b) (k : Fin n)
    (hk : k.val = b * p.val + q.val) : shapeCast ⟨1, ![n]⟩ x h (ix1 k) = x (ix2 p q) :=
  shapeCast_apply x h _ _ (by
    rw [Shape.rowMajor_val_two, Shape.rowMajor_val_one]
    show p.val * b + q.val = k.val
    rw [hk, Nat.mul_comm])

/-- The sum of all entries of a 4×2 array from zero, kept as one cell. -/
theorem total_apply (x : FVec Ideal S4x2 .f32) :
    shapeCast S1 (Host.reduceAdd x (constant S_ .f32 0x00000000#32) reducesTo_S4x2_S_d0_1 h_S_) shapeCasts_S_S1 (ix1 0)
      = 0 + ∑ i : Fin 4, ∑ e : Fin 2, x (ix2 i e) := by
  rw [shapeCast_apply _ shapeCasts_S_S1 (ix1 0) ix0 (by decide), hostReduceAdd_apply, constant_apply,
    Ideal.ofBits_zero_f32, Ideal.hostReduceAdd_total _ (fun b => b.elim0)]
  refine congrArg (0 + ·) ?_
  rw [← Equiv.sum_comp (⟨fun q => ix2 q.1 q.2, fun j => (j 0, j 1), fun _ => rfl, fun j => (eq_ix2 j).symm⟩ :
    Fin 4 × Fin 2 ≃ S4x2.Idx), Fintype.sum_prod_type]
  rfl

/-! ## The blocks of a point -/

variable (t : Fin cfg0.N)

/-- The ten input blocks of point `t`. -/
def insOf : Ins where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t

/-- A window at block 0 along an axis reads the axis where it stands. -/
theorem atZero (k n : Nat) : 0 * k + 1 * n = n := by omega

/-- A point reads the first weights whole, -/
theorem whole1 (x : S4x2x512.Idx) : (insOf m c t).x1 x = V m c main_v0 x :=
  congrArg (V m c main_v0) (funext fun a => Fin.ext (by
    match a with
    | ⟨0, _⟩ => exact atZero _ _
    | ⟨1, _⟩ => exact atZero _ _
    | ⟨2, _⟩ => exact atZero _ _))
/-- the first bias, -/
theorem whole2 (x : S4x512.Idx) : (insOf m c t).x2 x = V m c main_v1 x :=
  congrArg (V m c main_v1) (funext fun a => Fin.ext (by
    match a with
    | ⟨0, _⟩ => exact atZero _ _
    | ⟨1, _⟩ => exact atZero _ _))
/-- the second weights, -/
theorem whole3 (x : S4x512x512.Idx) : (insOf m c t).x3 x = V m c main_v2 x :=
  congrArg (V m c main_v2) (funext fun a => Fin.ext (by
    match a with
    | ⟨0, _⟩ => exact atZero _ _
    | ⟨1, _⟩ => exact atZero _ _
    | ⟨2, _⟩ => exact atZero _ _))
/-- the second bias, -/
theorem whole4 (x : S4x512.Idx) : (insOf m c t).x4 x = V m c main_v3 x :=
  congrArg (V m c main_v3) (funext fun a => Fin.ext (by
    match a with
    | ⟨0, _⟩ => exact atZero _ _
    | ⟨1, _⟩ => exact atZero _ _))
/-- the third weights, -/
theorem whole5 (x : S4x512x4.Idx) : (insOf m c t).x5 x = V m c main_v4 x :=
  congrArg (V m c main_v4) (funext fun a => Fin.ext (by
    match a with
    | ⟨0, _⟩ => exact atZero _ _
    | ⟨1, _⟩ => exact atZero _ _
    | ⟨2, _⟩ => exact atZero _ _))
/-- the third bias's table, -/
theorem whole6 (x : S16.Idx) : (insOf m c t).x6 x = V m c main_v5 x :=
  congrArg (V m c main_v5) (funext fun a => Fin.ext (by
    match a with
    | ⟨0, _⟩ => exact atZero _ _))
/-- the table of scales, -/
theorem whole7 (x : S8.Idx) : (insOf m c t).x7 x = V m c main_v7 x :=
  congrArg (V m c main_v7) (funext fun a => Fin.ext (by
    match a with
    | ⟨0, _⟩ => exact atZero _ _))
/-- the table of shifts -/
theorem whole8 (x : S8.Idx) : (insOf m c t).x8 x = V m c main_v8 x :=
  congrArg (V m c main_v8) (funext fun a => Fin.ext (by
    match a with
    | ⟨0, _⟩ => exact atZero _ _))
/-- and the one cell of the sum. -/
theorem whole9 (x : S1.Idx) : (insOf m c t).x9 x = V m c main_v10 x :=
  congrArg (V m c main_v10) (funext fun a => Fin.ext (by
    match a with
    | ⟨0, _⟩ => exact atZero _ _))

/-- The block of rows that point `t` reads starts at row `2048·t`. -/
theorem point0 : ∀ t : Fin cfg0.N, win0_0.index t ⟨0, by decide⟩ = t.val :=
  (by decide +kernel : ∀ t : Fin grid0.N, win0_0.index t ⟨0, by decide⟩ = t.val)

/-- Row `r` of the block is row `q` of the input. -/
theorem rows_apply (r : Fin 2048) (q : Fin 524288) (hq : q.val = 2048 * t.val + r.val) (e : Fin 2) :
    (insOf m c t).x0 (ix2 r e) = X0 m c (ix2 q e) := by
  refine Eq.trans ?_ (congrFun (V_main_arg0 m c) (ix2 q e))
  refine congrArg (V m c main_arg0) (funext fun a => Fin.ext ?_)
  match a with
  | ⟨0, _⟩ =>
    show win0_0.index t ⟨0, by decide⟩ * 2048 + 1 * r.val = q.val
    rw [point0 t]
    omega
  | ⟨1, _⟩ => exact atZero _ _

/-- The blocks of a point hold the flow's parameters. -/
theorem holds : Holds (P m c) (insOf m c t) where
  w1 i d k := (whole1 m c t _).trans (congrFun (lines m c).1 _)
  b1 i k := (whole2 m c t _).trans (congrFun (lines m c).2.1 _)
  w2 i l k := (whole3 m c t _).trans (congrFun (lines m c).2.2.1 _)
  b2 i k := (whole4 m c t _).trans (congrFun (lines m c).2.2.2.1 _)
  w3 i k j := (whole5 m c t _).trans (congrFun (lines m c).2.2.2.2.1 _)
  b3 i j n hn := ((whole6 m c t _).trans (congrFun (lines m c).2.2.2.2.2.1 _)).trans (table_apply _ _ i j n hn)
  es i e n hn := ((whole7 m c t _).trans (congrFun (lines m c).2.2.2.2.2.2.1 _)).trans (table_apply _ _ i e n hn)
  sh i e n hn := ((whole8 m c t _).trans (congrFun (lines m c).2.2.2.2.2.2.2.1 _)).trans (table_apply _ _ i e n hn)
  total := ((whole9 m c t _).trans (congrFun (lines m c).2.2.2.2.2.2.2.2 _)).trans (total_apply _)

end Cert.KernelIdeal.Block

end
-- ==== Proof.Array.lean ====
/-
  WHAT THE KERNEL'S RESULTS HOLD. The 256 blocks of rows tile each result array, so after the grid the first array is
  the flow's `out` row by row and the second, one column, its `logDet`; the last line of the program lays that column
  out as a vector. With it the kernel's run: both results, and every argument as launched.
-/
module

public import proofs.«01_k».proof.Proof.Stored
public import proofs.«01_k».proof.Proof.Operands

@[expose] public section

set_option maxRecDepth 4000

noncomputable section

namespace Cert.KernelIdeal.Block

open Cert.KernelIdeal Cert.KernelIdeal.Gen Idealize.ShloMosaic Idealize.ShloMosaic.TcCoe Idealize.ShloMosaic.ValueIdx
open Idealize.ShloMosaic.StableHlo Idealize.SL.Sem
open Idealize.ShloMosaic.Pipeline (Dat)

variable (m : (ℓ : Loc nD τ sig) → Buf (Elt Ideal) ℓ) (ρ : Dev nD → PrngReg) (c : Dev nD)

/-- The first result array. -/
def res0 : FVec Ideal S524288x2 .f32 := fun i => Flow.out (P m c) (Flow.rowOf (X0 m c) (i 0)) (i 1)
/-- The second result array, as one column … -/
def res1 : FVec Ideal S524288x1 .f32 := fun i => Flow.logDet (P m c) (Flow.rowOf (X0 m c) (i 0))
/-- … and as a vector. -/
def res1v : FVec Ideal S524288 .f32 := fun i => Flow.logDet (P m c) (Flow.rowOf (X0 m c) (i 0))

/-! ## The blocks the two result windows write -/

/-- Point `t` writes block `t` of the first array, -/
theorem point10 : ∀ t : Fin cfg0.N, win0_10.index t ⟨0, by decide⟩ = t.val :=
  (by decide +kernel : ∀ t : Fin grid0.N, win0_10.index t ⟨0, by decide⟩ = t.val)
/-- and block `t` of the second. -/
theorem point11 : ∀ t : Fin cfg0.N, win0_11.index t ⟨0, by decide⟩ = t.val :=
  (by decide +kernel : ∀ t : Fin grid0.N, win0_11.index t ⟨0, by decide⟩ = t.val)

variable (t : Fin cfg0.N)

/-- Every row of every block is a row of the array. -/
theorem row_lt (r : Fin 2048) : 2048 * t.val + r.val < 524288 := by
  have h : t.val < 256 := lt_of_lt_of_eq t.isLt N_0
  omega

/-- Row `r` of point `t`'s block, as a row of the array. -/
def rowAt (r : Fin 2048) : Fin 524288 := ⟨2048 * t.val + r.val, row_lt t r⟩

/-- The block's rows are the array's. -/
theorem rowOf_block (r : Fin 2048) : Flow.rowOf (insOf m c t).x0 r = Flow.rowOf (X0 m c) (rowAt t r) :=
  funext fun e => rows_apply m c t r (rowAt t r) rfl e

/-- The first window places the block's row and lane at the array's row and the same lane, -/
theorem emb10 (r : Fin 2048) (e : Fin 2) : (win0_10.rect t).emb (ix2 r e) = ix2 (rowAt t r) e :=
  funext fun a => Fin.ext (by
    match a with
    | ⟨0, _⟩ =>
      show win0_10.index t ⟨0, by decide⟩ * 2048 + 1 * r.val = 2048 * t.val + r.val
      rw [point10 t]
      omega
    | ⟨1, _⟩ => exact atZero _ _)
/-- and so does the second. -/
theorem emb11 (r : Fin 2048) (e : Fin 1) : (win0_11.rect t).emb (ix2 r e) = ix2 (rowAt t r) e :=
  funext fun a => Fin.ext (by
    match a with
    | ⟨0, _⟩ =>
      show win0_11.index t ⟨0, by decide⟩ * 2048 + 1 * r.val = 2048 * t.val + r.val
      rw [point11 t]
      omega
    | ⟨1, _⟩ => exact atZero _ _)

/-- What point `t`'s run leaves in its first block is the array's rows … -/
theorem outs10 (r : Fin 2048) (e : Fin 2) : (outsAt0 m c t).1 (ix2 r e) = res0 m c (ix2 (rowAt t r) e) := by
  have h := out10_apply c
    (grid0.coords t) (ms0_0 t) (hs0_0 t) (ms0_1 t) (hs0_1 t) (ms0_2 t) (hs0_2 t) (ms0_3 t) (hs0_3 t) (ms0_4
    t) (hs0_4 t) (ms0_5 t) (hs0_5 t) (ms0_6 t) (hs0_6 t) (ms0_7 t) (hs0_7 t) (ms0_8 t) (hs0_8 t) (ms0_9 t)
    (hs0_9 t) (ms0_10 t) (hs0_10 t) (ms0_11 t) (hs0_11 t)
    (holds m c t) r e
  rw [rowOf_block] at h
  unfold outsAt0
  dsimp only [insOf] at h ⊢
  exact h
/-- … and so in its second. -/
theorem outs11 (r : Fin 2048) : (outsAt0 m c t).2 (ix2 r 0) = res1 m c (ix2 (rowAt t r) 0) := by
  have h := out11_apply c
    (grid0.coords t) (ms0_0 t) (hs0_0 t) (ms0_1 t) (hs0_1 t) (ms0_2 t) (hs0_2 t) (ms0_3 t) (hs0_3 t) (ms0_4
    t) (hs0_4 t) (ms0_5 t) (hs0_5 t) (ms0_6 t) (hs0_6 t) (ms0_7 t) (hs0_7 t) (ms0_8 t) (hs0_8 t) (ms0_9 t)
    (hs0_9 t) (ms0_10 t) (hs0_10 t) (ms0_11 t) (hs0_11 t)
    (holds m c t) r
  rw [rowOf_block] at h
  unfold outsAt0
  dsimp only [insOf] at h ⊢
  exact h

/-- What point `t` writes to the first array is its block of `res0`. -/
theorem flushed10 : (dats m 0 c).flushed 10 t = (win0_10.blk t).view.read (Elt Ideal) (res0 m c) := by
  show (cfg0.win 10).cut (grid0.coords t) ((dats m 0 c).after 10 t) = _
  rw [after0_10]
  refine funext fun (j : S2048x2.Idx) => ?_
  rw [eq_ix2 j]
  exact (outs10 m c t (j 0) (j 1)).trans (congrArg (res0 m c) (emb10 t (j 0) (j 1)).symm)

/-- What point `t` writes to the second array is its block of `res1`. -/
theorem flushed11 : (dats m 0 c).flushed 11 t = (win0_11.blk t).view.read (Elt Ideal) (res1 m c) := by
  show (cfg0.win 11).cut (grid0.coords t) ((dats m 0 c).after 11 t) = _
  rw [after0_11]
  refine funext fun (j : S2048x1.Idx) => ?_
  rw [row_ix j]
  exact (outs11 m c t (j 0)).trans (congrArg (res1 m c) (emb11 t (j 0) 0).symm)

/-! ## The blocks tile the arrays -/

/-- The point whose block has row `q`, and the row in it. -/
theorem row_split (q : Fin 524288) : ∃ (t : Fin cfg0.N) (r : Fin 2048), rowAt t r = q :=
  ⟨⟨q.val / 2048, by rw [show cfg0.N = 256 from N_0]; omega⟩, ⟨q.val % 2048, Nat.mod_lt _ (by decide)⟩,
    Fin.ext (Nat.div_add_mod q.val 2048)⟩

/-- Every entry of the first array is in the block of some point, -/
theorem cover10 (i : S524288x2.Idx) :
    ∃ t : Fin cfg0.N, (cfg0.win 10).flush t = true ∧ i ∈ ((cfg0.win 10).blk t).view.set := by
  obtain ⟨t, r, hr⟩ := row_split (i 0)
  refine ⟨t, flush0_10 _, ?_⟩
  show i ∈ ((View.whole main_v11_0).slice (win0_10.rect t)).set
  rw [View.set_slice_whole]
  have h : (win0_10.rect t).emb (ix2 r (i 1)) = i := (emb10 t r (i 1)).trans (hr ▸ (eq_ix2 i).symm)
  exact h ▸ (win0_10.rect t).idx_mem _

/-- and so is every entry of the second. -/
theorem cover11 (i : S524288x1.Idx) :
    ∃ t : Fin cfg0.N, (cfg0.win 11).flush t = true ∧ i ∈ ((cfg0.win 11).blk t).view.set := by
  obtain ⟨t, r, hr⟩ := row_split (i 0)
  refine ⟨t, flush0_11 _, ?_⟩
  show i ∈ ((View.whole main_v11_1).slice (win0_11.rect t)).set
  rw [View.set_slice_whole]
  have h : (win0_11.rect t).emb (ix2 r (i 1)) = i := (emb11 t r (i 1)).trans (hr ▸ (eq_ix2 i).symm)
  exact h ▸ (win0_11.rect t).idx_mem _

/-- After the grid the first array is `res0` … -/
theorem final10 : (dats m 0 c).arrAt 10 cfg0.N = res0 m c :=
  (dats m 0 c).arrAt_eq_of_cover 10 (res0 m c) (fun t _ => flushed10 m c t) cover10
/-- … and the second `res1`. -/
theorem final11 : (dats m 0 c).arrAt 11 cfg0.N = res1 m c :=
  (dats m 0 c).arrAt_eq_of_cover 11 (res1 m c) (fun t _ => flushed11 m c t) cover11

/-- The last line lays the column out as a vector. -/
theorem tail : Pipeline.afterTail₀ cfgs (dats m) 0 (V0 m) [hostOps1] c main_v12 = res1v m c := by
  unfold Pipeline.afterTail₀
  simp only [hostOps1, List.flatten_cons, List.flatten_nil, List.append_nil]
  after_results_simp
  rw [Pipeline.withArrays_arr spec0 (by decide) c (V0 m c) _ 11]
  refine funext fun (i : S524288.Idx) => ?_
  refine (congrArg (fun x : FVec Ideal S524288x1 .f32 => shapeCast S524288 x shapeCasts_S524288x1_S524288 i)
    (final11 m c)).trans ?_
  refine shapeCast_apply (res1 m c) _ i (ix2 (i 0) 0) ?_
  rw [Shape.rowMajor_val_two, Shape.rowMajor_val_one]
  exact Nat.mul_one _

/-- THE KERNEL'S RUN: its first result is `res0` and its second `res1v`; the arguments are unchanged. -/
theorem run : θ_run defs (onTc (τ := τ) (main (F := Ideal))) ⟨m, fun _ => 0, ρ⟩ fun r => ∀ c : Dev nD,
      r.2.mem ((c.tc : Thread nD τ).loc main_v11_0) = res0 m c
      ∧ r.2.mem ((c.tc : Thread nD τ).loc main_v12) = res1v m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c =>
    have rest (b : Ref sig .tc) (hb : b ∈ Pipeline.restRefs sig (cfgs 0).spec) :
        r.2.mem ((c.tc : Thread nD τ).loc b) = Pipeline.afterTail₀ cfgs (dats m) 0 (V0 m) [hostOps1] c b := (h c).2 b hb
    ⟨((h c).1 10).trans (final10 m c),
      (rest main_v12 (Pipeline.mem_restRefs_of main_v12 (by decide) (by decide))).trans (tail m c),
      ((h c).1 0).trans (((dats m 0 c).arrAt_in 0 rfl _).trans ((A_eq m c 0).trans (V_main_arg0 m c))),
      (rest main_arg1 (Pipeline.mem_restRefs_of main_arg1 (by decide) (by decide))).trans (W_main_arg1 m (dats m) c),
      (rest main_arg2 (Pipeline.mem_restRefs_of main_arg2 (by decide) (by decide))).trans (W_main_arg2 m (dats m) c),
      (rest main_arg3 (Pipeline.mem_restRefs_of main_arg3 (by decide) (by decide))).trans (W_main_arg3 m (dats m) c),
      (rest main_arg4 (Pipeline.mem_restRefs_of main_arg4 (by decide) (by decide))).trans (W_main_arg4 m (dats m) c),
      (rest main_arg5 (Pipeline.mem_restRefs_of main_arg5 (by decide) (by decide))).trans (W_main_arg5 m (dats m) c),
      (rest main_arg6 (Pipeline.mem_restRefs_of main_arg6 (by decide) (by decide))).trans (W_main_arg6 m (dats m) c),
      (rest main_arg7 (Pipeline.mem_restRefs_of main_arg7 (by decide) (by decide))).trans (W_main_arg7 m (dats m) c),
      (rest main_arg8 (Pipeline.mem_restRefs_of main_arg8 (by decide) (by decide))).trans (W_main_arg8 m (dats m) c)⟩)
    (run_main m ρ)

end Cert.KernelIdeal.Block

end
-- ==== Proof.lean ====
/-
  THE CLAIMS. Both programs are runs of the flow of the model module: the kernel's two results are the flow's `out` and
  `logDet` of each row of the input (the array module), and so are the reference's (the reference module). The launches
  agree on the arguments, so the results agree. The frames are the generated runs'; nothing is rewritten on the way to
  the idealized kernel.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Reference
public import proofs.«01_k».proof.Proof.Array
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.ShloMosaic.ValueIdx Idealize.SL.Sem

/-- The kernel runs to its end from every launch, leaves its arguments as launched and every semaphore at zero. -/
theorem frameKernel : Cert.quiescent_Kernel := fun m ρ _ => Cert.Kernel.Gen.frame m ρ
/-- So does the idealized kernel, -/
theorem frameKernelIdeal : Cert.quiescent_KernelIdeal := fun m ρ _ => Cert.KernelIdeal.Gen.frame m ρ
/-- and so does the idealized reference, which has no semaphore. -/
theorem frameReferenceIdeal : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Layer.run m ρ)

/-- The idealized kernel is the kernel: no operation was rewritten. -/
theorem preserves : Cert.preserves_Kernel_KernelIdeal := trivial

/-- At the extended reals, on launches that agree on the nine arguments, the kernel and the reference end with the same
    two results: the flow's `out` and `logDet` of every row. -/
theorem algebraic : Cert.algebraic_KernelIdeal_ReferenceIdeal := by
  intro m ρ m' ρ' _ hagree
  refine ⟨fun c => Cert.KernelIdeal.Block.res0 m c, fun c => Cert.KernelIdeal.Block.res1v m c,
    Cert.KernelIdeal.Block.run m ρ, ?_⟩
  refine (θ_run Cert.ReferenceIdeal.defs _ _).mono (fun r h c => ?_) (Cert.ReferenceIdeal.Layer.run m' ρ')
  obtain ⟨e0, e1, e2, e3, e4, e5, e6, e7, e8⟩ := hagree c
  have hP : Cert.ReferenceIdeal.Layer.P (StableHlo.launchContents m' c) = Cert.KernelIdeal.Block.P m c :=
    Cert.Flow.params_congr e1 e2 e3 e4 e5 e6 e7 e8
  have hX : Cert.ReferenceIdeal.Layer.X0 (StableHlo.launchContents m' c) = Cert.KernelIdeal.Block.X0 m c := e0
  obtain ⟨hOut, hLogDet, hKept⟩ := h c
  refine ⟨funext fun (j : Cert.KernelIdeal.S524288x2.Idx) => ?_,
    funext fun (j : Cert.KernelIdeal.S524288.Idx) => ?_, hKept⟩
  · rw [eq_ix2 j]
    refine (hOut (j 0) (j 1)).trans ?_
    rw [hP, hX]
    rfl
  · rw [eq_ix1 j]
    refine (hLogDet (j 0)).trans ?_
    rw [hP, hX]
    rfl

/-- All five claims. -/
theorem claim : Cert.Claim :=
  ⟨Cert.Kernel.Gen.facts, Cert.KernelIdeal.Gen.facts, Cert.ReferenceIdeal.Gen.facts,
    frameKernel, frameKernelIdeal, frameReferenceIdeal, preserves, algebraic⟩

end Cert.Proof

end
